-- ==== Defs.lean ====
def Pre_Kernel [hPre_heads_in_range : Cert.Pre_heads_in_range.Facts] (m : (ℓ : Loc Cert.Kernel.nD Cert.Kernel.τ Cert.Kernel.sig) → Buf (Elt Bits) ℓ) : Prop :=
  ∀ c : Dev Cert.Kernel.nD,
    (Cert.Pre_heads_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_heads_in_range : Cert.Pre_heads_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_heads_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_RefIdeal (m : (ℓ : Loc Cert.RefIdeal.nD Cert.RefIdeal.τ Cert.RefIdeal.sig) → Buf (Elt Ideal) ℓ) : Prop :=
  True

def Pre_RefIdeal_heads_in_range [hPre_heads_in_range : Cert.Pre_heads_in_range.Facts] (m : (ℓ : Loc Cert.RefIdeal.nD Cert.RefIdeal.τ Cert.RefIdeal.sig) → Buf (Elt Ideal) ℓ) : Prop :=
  ∀ c : Dev Cert.RefIdeal.nD,
    (Cert.Pre_heads_in_range.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6))) = (fun _ => 1#1)

def quiescent_Kernel [hKernel : Cert.Kernel.Facts] [hPre_heads_in_range : Cert.Pre_heads_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_heads_in_range : Cert.Pre_heads_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6))
      ∧ r.2.sem = fun _ => 0)

def quiescent_RefIdeal_pre_heads_in_range [hRefIdeal : Cert.RefIdeal.Facts] [hPre_heads_in_range : Cert.Pre_heads_in_range.Facts] : Prop :=
  ∀ (m : (ℓ : Loc Cert.RefIdeal.nD Cert.RefIdeal.τ Cert.RefIdeal.sig) → Buf (Elt Ideal) ℓ) (g : Dev Cert.RefIdeal.nD → PrngReg), Pre_RefIdeal_heads_in_range m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_RefIdeal [hKernelIdeal : Cert.KernelIdeal.Facts] [hRefIdeal : Cert.RefIdeal.Facts] [hPre_heads_in_range : Cert.Pre_heads_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v88) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6))

def Claim : Prop :=
  ∃ (hKernel : Cert.Kernel.Facts) (hKernelIdeal : Cert.KernelIdeal.Facts) (hRefIdeal : Cert.RefIdeal.Facts) (hPre_heads_in_range : Cert.Pre_heads_in_range.Facts),
    quiescent_Kernel (hKernel := hKernel) (hPre_heads_in_range := hPre_heads_in_range)
    ∧ quiescent_KernelIdeal (hKernelIdeal := hKernelIdeal) (hPre_heads_in_range := hPre_heads_in_range)
    ∧ quiescent_RefIdeal (hRefIdeal := hRefIdeal)
    ∧ quiescent_RefIdeal_pre_heads_in_range (hRefIdeal := hRefIdeal) (hPre_heads_in_range := hPre_heads_in_range)
    ∧ preserves_Kernel_KernelIdeal
    ∧ algebraic_KernelIdeal_RefIdeal (hKernelIdeal := hKernelIdeal) (hRefIdeal := hRefIdeal) (hPre_heads_in_range := hPre_heads_in_range)
-- ==== Pre_heads_in_range.lean ====
abbrev S2x32768x40x128 : Shape := ⟨4, ![2, 32768, 40, 128]⟩
abbrev S2x40 : Shape := ⟨2, ![2, 40]⟩
abbrev S40 : Shape := ⟨1, ![40]⟩
abbrev S27 : Shape := ⟨1, ![27]⟩
abbrev S_ : Shape := ⟨0, ![]⟩

class Facts : Prop where
  slices_S40_S27_0 : S40.Slices ![0] S27
  bcast_S_S27 : S_.BroadcastsInDim S27 (![] : Fin 0 → Fin S27.rank)

variable [Facts]

def fn {F : FTy → Type} [FloatOps F] (main_arg0 : FVec F S2x32768x40x128 .fp8e4m3) (main_arg1 : FVec F S2x32768x40x128 .fp8e4m3) (main_arg2 : FVec F S2x32768x40x128 .fp8e4m3) (main_arg3 : FVec F S2x40 .f32) (main_arg4 : FVec F S2x40 .f32) (main_arg5 : FVec F S2x40 .f32) (main_arg6 : IVec S40 32) : IVec S27 1 :=
  let main_v0 : IVec S27 32 := (extractStridedSlice S27 ![0] · slices_S40_S27_0) main_arg6
  let main_c : IVec S_ 32 := constantI S_ 32 0#32
  let main_v1 : IVec S27 32 := broadcastInDim S27 ![] bcast_S_S27 main_c
  let main_v2 : IVec S27 1 := cmpi .sge main_v0 main_v1
  let main_c_0 : IVec S_ 32 := constantI S_ 32 40#32
  let main_v3 : IVec S27 32 := broadcastInDim S27 ![] bcast_S_S27 main_c_0
  let main_v4 : IVec S27 1 := cmpi .slt main_v0 main_v3
  let main_v5 : IVec S27 1 := andi main_v2 main_v4
  main_v5
-- ==== Kernel.lean ====
abbrev S2x32768x40x128 : Shape := ⟨4, ![2, 32768, 40, 128]⟩
abbrev S2x40 : Shape := ⟨2, ![2, 40]⟩
abbrev S40 : Shape := ⟨1, ![40]⟩
abbrev S_ : Shape := ⟨0, ![]⟩
abbrev S2x40x32768x128 : Shape := ⟨4, ![2, 40, 32768, 128]⟩
abbrev S2x40x128x32768 : Shape := ⟨4, ![2, 40, 128, 32768]⟩
abbrev S2x40x32256x128 : Shape := ⟨4, ![2, 40, 32256, 128]⟩
abbrev S2x40x1536x128 : Shape := ⟨4, ![2, 40, 1536, 128]⟩
abbrev S2x40x128x32256 : Shape := ⟨4, ![2, 40, 128, 32256]⟩
abbrev S2x40x128x1536 : Shape := ⟨4, ![2, 40, 128, 1536]⟩
abbrev S2x32256x3456 : Shape := ⟨3, ![2, 32256, 3456]⟩
abbrev S1x1x1536x128 : Shape := ⟨4, ![1, 1, 1536, 128]⟩
abbrev S1 : Shape := ⟨1, ![1]⟩
abbrev S1x1x512x128 : Shape := ⟨4, ![1, 1, 512, 128]⟩
abbrev S1x1x128x1536 : Shape := ⟨4, ![1, 1, 128, 1536]⟩
abbrev S1x1x128x512 : Shape := ⟨4, ![1, 1, 128, 512]⟩
abbrev S1x1536x128 : Shape := ⟨3, ![1, 1536, 128]⟩
abbrev S3584x128 : Shape := ⟨2, ![3584, 128]⟩
abbrev S128x3584 : Shape := ⟨2, ![128, 3584]⟩
abbrev S3584x512 : Shape := ⟨2, ![3584, 512]⟩
abbrev S128x512 : Shape := ⟨2, ![128, 512]⟩
abbrev S1x1 : Shape := ⟨2, ![1, 1]⟩
abbrev S512x128 : Shape := ⟨2, ![512, 128]⟩
abbrev S1536x128 : Shape := ⟨2, ![1536, 128]⟩
abbrev S128x1536 : Shape := ⟨2, ![128, 1536]⟩
abbrev S1x512 : Shape := ⟨2, ![1, 512]⟩
abbrev S512x512 : Shape := ⟨2, ![512, 512]⟩
abbrev S512 : Shape := ⟨1, ![512]⟩
abbrev S1x512x128 : Shape := ⟨3, ![1, 512, 128]⟩

abbrev nBuf : Space → Nat
  | .hbm => 19
  | .vmem => 20
  | .smem => 3
  | _ => 0

abbrev bufTy : (tb : Table) → Fin (tcTables nBuf tb) → BufTy
  | .hbm, ⟨0, _⟩ => ⟨S2x32768x40x128, .fp8e4m3⟩
  | .hbm, ⟨1, _⟩ => ⟨S2x32768x40x128, .fp8e4m3⟩
  | .hbm, ⟨2, _⟩ => ⟨S2x32768x40x128, .fp8e4m3⟩
  | .hbm, ⟨3, _⟩ => ⟨S2x40, .f32⟩
  | .hbm, ⟨4, _⟩ => ⟨S2x40, .f32⟩
  | .hbm, ⟨5, _⟩ => ⟨S2x40, .f32⟩
  | .hbm, ⟨6, _⟩ => ⟨S2x40, .f32⟩
  | .hbm, ⟨7, _⟩ => ⟨S_, .f32⟩
  | .hbm, ⟨8, _⟩ => ⟨S2x40, .f32⟩
  | .hbm, ⟨9, _⟩ => ⟨S2x40, .f32⟩
  | .hbm, ⟨10, _⟩ => ⟨S2x40x32768x128, .fp8e4m3⟩
  | .hbm, ⟨11, _⟩ => ⟨S2x40x32768x128, .fp8e4m3⟩
  | .hbm, ⟨12, _⟩ => ⟨S2x40x128x32768, .fp8e4m3⟩
  | .hbm, ⟨13, _⟩ => ⟨S2x40x32256x128, .fp8e4m3⟩
  | .hbm, ⟨14, _⟩ => ⟨S2x40x32256x128, .fp8e4m3⟩
  | .hbm, ⟨15, _⟩ => ⟨S2x40x1536x128, .fp8e4m3⟩
  | .hbm, ⟨16, _⟩ => ⟨S2x40x128x32256, .fp8e4m3⟩
  | .hbm, ⟨17, _⟩ => ⟨S2x40x128x1536, .fp8e4m3⟩
  | .hbm, ⟨18, _⟩ => ⟨S2x32256x3456, .bf16⟩
  | .local _ .vmem, ⟨0, _⟩ => ⟨S1x1x1536x128, .fp8e4m3⟩
  | .local _ .vmem, ⟨1, _⟩ => ⟨S1x1x1536x128, .fp8e4m3⟩
  | .local _ .vmem, ⟨2, _⟩ => ⟨S1x1x1536x128, .fp8e4m3⟩
  | .local _ .vmem, ⟨3, _⟩ => ⟨S1x1x1536x128, .fp8e4m3⟩
  | .local _ .vmem, ⟨4, _⟩ => ⟨S1x1x1536x128, .fp8e4m3⟩
  | .local _ .vmem, ⟨5, _⟩ => ⟨S1x1x1536x128, .fp8e4m3⟩
  | .local _ .vmem, ⟨6, _⟩ => ⟨S1x1x512x128, .fp8e4m3⟩
  | .local _ .vmem, ⟨7, _⟩ => ⟨S1x1x512x128, .fp8e4m3⟩
  | .local _ .vmem, ⟨8, _⟩ => ⟨S1x1x128x1536, .fp8e4m3⟩
  | .local _ .vmem, ⟨9, _⟩ => ⟨S1x1x128x1536, .fp8e4m3⟩
  | .local _ .vmem, ⟨10, _⟩ => ⟨S1x1x128x1536, .fp8e4m3⟩
  | .local _ .vmem, ⟨11, _⟩ => ⟨S1x1x128x1536, .fp8e4m3⟩
  | .local _ .vmem, ⟨12, _⟩ => ⟨S1x1x128x512, .fp8e4m3⟩
  | .local _ .vmem, ⟨13, _⟩ => ⟨S1x1x128x512, .fp8e4m3⟩
  | .local _ .vmem, ⟨14, _⟩ => ⟨S1x1536x128, .bf16⟩
  | .local _ .vmem, ⟨15, _⟩ => ⟨S1x1536x128, .bf16⟩
  | .local _ .vmem, ⟨16, _⟩ => ⟨S3584x128, .fp8e4m3⟩
  | .local _ .vmem, ⟨17, _⟩ => ⟨S128x3584, .fp8e4m3⟩
  | .local _ .vmem, ⟨18, _⟩ => ⟨S3584x512, .f32⟩
  | .local _ .vmem, ⟨19, _⟩ => ⟨S128x512, .f32⟩
  | .local _ .smem, ⟨0, _⟩ => ⟨S40, .i32⟩
  | .local _ .smem, ⟨1, _⟩ => ⟨S2x40, .f32⟩
  | .local _ .smem, ⟨2, _⟩ => ⟨S2x40, .f32⟩
  | _, _ => ⟨S2x32768x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_arg6 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg0_0 : Ref sig .tc := ⟨.smem, 1, rfl⟩
abbrev cc0_stg1_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 27, 21], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v1 : BitVec 32) : Fin 2 → Nat :=
  let arg0 : BitVec 32 := BitVec.ofNat 32 (i 0).val
  let v2 : Index := Scalar.indexCast arg0
  let v3 : Index := Scalar.indexCast v1
  ![v2.toNat, v3.toNat]

def k0_chk1 (i : grid0.Coords) (v1 : BitVec 32) : Prop :=
  (∀ a, (k0_off2 i v1) a + S1x1.size a ≤ S2x40.size a)
theorem k0_off2_inb : ∀ (i : grid0.Coords) (v1 : BitVec 32) (k0_hw1 : k0_chk1 i v1), ∀ a, (k0_off2 i v1) a + S1x1.size a ≤ S2x40.size a := fun i v1 k0_hw1 => k0_hw1

@[reducible] def k0_t1_loop (i : grid0.Coords) : Scf.Loop 32 :=
  let c0_i32_38 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v44 : BitVec 32 := Scalar.subi v40 c0_i32_38
  let c1_i32 : BitVec 32 := 1#32
  let v46 : BitVec 32 := Scalar.divsi v44 c1_i32
  let v47 : BitVec 32 := Scalar.muli v46 c1_i32
  let v48 : BitVec 32 := Scalar.addi c0_i32_38 v47
  let c1_i32_39 : BitVec 32 := 1#32
  ⟨c0_i32_38, v48, c1_i32_39⟩
def k0_mult1 (i : grid0.Coords) (k0_t1 : Fin (k0_t1_loop i).trips) : BitVec 32 :=
  let c0_i32_38 : BitVec 32 := 0#32
  let c1_i32_39 : BitVec 32 := 1#32
  let arg18 : BitVec 32 := Scf.iv c0_i32_38 c1_i32_39 k0_t1
  let c512_i32 : BitVec 32 := 512#32
  let v137 : BitVec 32 := Scalar.muli arg18 c512_i32
  v137
def k0_off3 (i : grid0.Coords) (k0_t1 : Fin (k0_t1_loop i).trips) : Fin 2 → Nat :=
  let c0_i32_38 : BitVec 32 := 0#32
  let c1_i32_39 : BitVec 32 := 1#32
  let arg18 : BitVec 32 := Scf.iv c0_i32_38 c1_i32_39 k0_t1
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult2 (i : grid0.Coords) (k0_t1 : Fin (k0_t1_loop i).trips) : BitVec 32 :=
  let c0_i32_38 : BitVec 32 := 0#32
  let c1_i32_39 : BitVec 32 := 1#32
  let arg18 : BitVec 32 := Scf.iv c0_i32_38 c1_i32_39 k0_t1
  let c512_i32_99 : BitVec 32 := 512#32
  let v144 : BitVec 32 := Scalar.muli arg18 c512_i32_99
  v144
def k0_off4 (i : grid0.Coords) (k0_t1 : Fin (k0_t1_loop i).trips) : Fin 2 → Nat :=
  let c0_i32_38 : BitVec 32 := 0#32
  let c1_i32_39 : BitVec 32 := 1#32
  let arg18 : BitVec 32 := Scf.iv c0_i32_38 c1_i32_39 k0_t1
  let c512_i32_99 : BitVec 32 := 512#32
  let v144 : BitVec 32 := Scalar.muli arg18 c512_i32_99
  let v145 : BitVec 32 := v144
  let v146 : Index := Scalar.indexCast v145
  let c0_100 : Index := 0#32
  ![v146.toNat, 0]
@[reducible] def k0_t2_loop (i : grid0.Coords) : Scf.Loop 32 :=
  let c0_i32_38 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v44 : BitVec 32 := Scalar.subi v40 c0_i32_38
  let c1_i32 : BitVec 32 := 1#32
  let v46 : BitVec 32 := Scalar.divsi v44 c1_i32
  let v47 : BitVec 32 := Scalar.muli v46 c1_i32
  let v48 : BitVec 32 := Scalar.addi c0_i32_38 v47
  let v45 : BitVec 32 := Scalar.addi c0_i32_38 v44
  let c1_i32_40 : BitVec 32 := 1#32
  ⟨v48, v45, c1_i32_40⟩
def k0_mult3 (i : grid0.Coords) (k0_t2 : Fin (k0_t2_loop i).trips) : BitVec 32 :=
  let c0_i32_38 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v44 : BitVec 32 := Scalar.subi v40 c0_i32_38
  let c1_i32 : BitVec 32 := 1#32
  let v46 : BitVec 32 := Scalar.divsi v44 c1_i32
  let v47 : BitVec 32 := Scalar.muli v46 c1_i32
  let v48 : BitVec 32 := Scalar.addi c0_i32_38 v47
  let c1_i32_40 : BitVec 32 := 1#32
  let arg18 : BitVec 32 := Scf.iv v48 c1_i32_40 k0_t2
  let c512_i32 : BitVec 32 := 512#32
  let v137 : BitVec 32 := Scalar.muli arg18 c512_i32
  v137
def k0_off5 (i : grid0.Coords) (k0_t2 : Fin (k0_t2_loop i).trips) : Fin 2 → Nat :=
  let c0_i32_38 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v44 : BitVec 32 := Scalar.subi v40 c0_i32_38
  let c1_i32 : BitVec 32 := 1#32
  let v46 : BitVec 32 := Scalar.divsi v44 c1_i32
  let v47 : BitVec 32 := Scalar.muli v46 c1_i32
  let v48 : BitVec 32 := Scalar.addi c0_i32_38 v47
  let c1_i32_40 : BitVec 32 := 1#32
  let arg18 : BitVec 32 := Scf.iv v48 c1_i32_40 k0_t2
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult4 (i : grid0.Coords) (k0_t2 : Fin (k0_t2_loop i).trips) : BitVec 32 :=
  let c0_i32_38 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v44 : BitVec 32 := Scalar.subi v40 c0_i32_38
  let c1_i32 : BitVec 32 := 1#32
  let v46 : BitVec 32 := Scalar.divsi v44 c1_i32
  let v47 : BitVec 32 := Scalar.muli v46 c1_i32
  let v48 : BitVec 32 := Scalar.addi c0_i32_38 v47
  let c1_i32_40 : BitVec 32 := 1#32
  let arg18 : BitVec 32 := Scf.iv v48 c1_i32_40 k0_t2
  let c512_i32_99 : BitVec 32 := 512#32
  let v144 : BitVec 32 := Scalar.muli arg18 c512_i32_99
  v144
def k0_off6 (i : grid0.Coords) (k0_t2 : Fin (k0_t2_loop i).trips) : Fin 2 → Nat :=
  let c0_i32_38 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v44 : BitVec 32 := Scalar.subi v40 c0_i32_38
  let c1_i32 : BitVec 32 := 1#32
  let v46 : BitVec 32 := Scalar.divsi v44 c1_i32
  let v47 : BitVec 32 := Scalar.muli v46 c1_i32
  let v48 : BitVec 32 := Scalar.addi c0_i32_38 v47
  let c1_i32_40 : BitVec 32 := 1#32
  let arg18 : BitVec 32 := Scf.iv v48 c1_i32_40 k0_t2
  let c512_i32_99 : BitVec 32 := 512#32
  let v144 : BitVec 32 := Scalar.muli arg18 c512_i32_99
  let v145 : BitVec 32 := v144
  let v146 : Index := Scalar.indexCast v145
  let c0_100 : Index := 0#32
  ![v146.toNat, 0]
@[reducible] def k0_t3_loop (i : grid0.Coords) : Scf.Loop 32 :=
  let c0_i32_45 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v56 : BitVec 32 := Scalar.subi v40 c0_i32_45
  let c1_i32_46 : BitVec 32 := 1#32
  let v58 : BitVec 32 := Scalar.divsi v56 c1_i32_46
  let v59 : BitVec 32 := Scalar.muli v58 c1_i32_46
  let v60 : BitVec 32 := Scalar.addi c0_i32_45 v59
  let c1_i32_47 : BitVec 32 := 1#32
  ⟨c0_i32_45, v60, c1_i32_47⟩
def k0_mult5 (i : grid0.Coords) (k0_t3 : Fin (k0_t3_loop i).trips) : BitVec 32 :=
  let c0_i32_45 : BitVec 32 := 0#32
  let c1_i32_47 : BitVec 32 := 1#32
  let arg18 : BitVec 32 := Scf.iv c0_i32_45 c1_i32_47 k0_t3
  let c512_i32 : BitVec 32 := 512#32
  let v137 : BitVec 32 := Scalar.muli arg18 c512_i32
  v137
def k0_off7 (i : grid0.Coords) (k0_t3 : Fin (k0_t3_loop i).trips) : Fin 2 → Nat :=
  let c0_i32_45 : BitVec 32 := 0#32
  let c1_i32_47 : BitVec 32 := 1#32
  let arg18 : BitVec 32 := Scf.iv c0_i32_45 c1_i32_47 k0_t3
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult6 (i : grid0.Coords) (k0_t3 : Fin (k0_t3_loop i).trips) : BitVec 32 :=
  let c0_i32_45 : BitVec 32 := 0#32
  let c1_i32_47 : BitVec 32 := 1#32
  let arg18 : BitVec 32 := Scf.iv c0_i32_45 c1_i32_47 k0_t3
  let c512_i32_100 : BitVec 32 := 512#32
  let v145 : BitVec 32 := Scalar.muli arg18 c512_i32_100
  v145
def k0_off8 (i : grid0.Coords) (k0_t3 : Fin (k0_t3_loop i).trips) : Fin 2 → Nat :=
  let c0_101 : Index := 0#32
  let c0_i32_45 : BitVec 32 := 0#32
  let c1_i32_47 : BitVec 32 := 1#32
  let arg18 : BitVec 32 := Scf.iv c0_i32_45 c1_i32_47 k0_t3
  let c512_i32_100 : BitVec 32 := 512#32
  let v145 : BitVec 32 := Scalar.muli arg18 c512_i32_100
  let v146 : BitVec 32 := v145
  let v147 : Index := Scalar.indexCast v146
  ![0, v147.toNat]
@[reducible] def k0_t4_loop (i : grid0.Coords) : Scf.Loop 32 :=
  let c0_i32_45 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v56 : BitVec 32 := Scalar.subi v40 c0_i32_45
  let c1_i32_46 : BitVec 32 := 1#32
  let v58 : BitVec 32 := Scalar.divsi v56 c1_i32_46
  let v59 : BitVec 32 := Scalar.muli v58 c1_i32_46
  let v60 : BitVec 32 := Scalar.addi c0_i32_45 v59
  let v57 : BitVec 32 := Scalar.addi c0_i32_45 v56
  let c1_i32_48 : BitVec 32 := 1#32
  ⟨v60, v57, c1_i32_48⟩
def k0_mult7 (i : grid0.Coords) (k0_t4 : Fin (k0_t4_loop i).trips) : BitVec 32 :=
  let c0_i32_45 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v56 : BitVec 32 := Scalar.subi v40 c0_i32_45
  let c1_i32_46 : BitVec 32 := 1#32
  let v58 : BitVec 32 := Scalar.divsi v56 c1_i32_46
  let v59 : BitVec 32 := Scalar.muli v58 c1_i32_46
  let v60 : BitVec 32 := Scalar.addi c0_i32_45 v59
  let c1_i32_48 : BitVec 32 := 1#32
  let arg18 : BitVec 32 := Scf.iv v60 c1_i32_48 k0_t4
  let c512_i32 : BitVec 32 := 512#32
  let v137 : BitVec 32 := Scalar.muli arg18 c512_i32
  v137
def k0_off9 (i : grid0.Coords) (k0_t4 : Fin (k0_t4_loop i).trips) : Fin 2 → Nat :=
  let c0_i32_45 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v56 : BitVec 32 := Scalar.subi v40 c0_i32_45
  let c1_i32_46 : BitVec 32 := 1#32
  let v58 : BitVec 32 := Scalar.divsi v56 c1_i32_46
  let v59 : BitVec 32 := Scalar.muli v58 c1_i32_46
  let v60 : BitVec 32 := Scalar.addi c0_i32_45 v59
  let c1_i32_48 : BitVec 32 := 1#32
  let arg18 : BitVec 32 := Scf.iv v60 c1_i32_48 k0_t4
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult8 (i : grid0.Coords) (k0_t4 : Fin (k0_t4_loop i).trips) : BitVec 32 :=
  let c0_i32_45 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v56 : BitVec 32 := Scalar.subi v40 c0_i32_45
  let c1_i32_46 : BitVec 32 := 1#32
  let v58 : BitVec 32 := Scalar.divsi v56 c1_i32_46
  let v59 : BitVec 32 := Scalar.muli v58 c1_i32_46
  let v60 : BitVec 32 := Scalar.addi c0_i32_45 v59
  let c1_i32_48 : BitVec 32 := 1#32
  let arg18 : BitVec 32 := Scf.iv v60 c1_i32_48 k0_t4
  let c512_i32_100 : BitVec 32 := 512#32
  let v145 : BitVec 32 := Scalar.muli arg18 c512_i32_100
  v145
def k0_off10 (i : grid0.Coords) (k0_t4 : Fin (k0_t4_loop i).trips) : Fin 2 → Nat :=
  let c0_101 : Index := 0#32
  let c0_i32_45 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v56 : BitVec 32 := Scalar.subi v40 c0_i32_45
  let c1_i32_46 : BitVec 32 := 1#32
  let v58 : BitVec 32 := Scalar.divsi v56 c1_i32_46
  let v59 : BitVec 32 := Scalar.muli v58 c1_i32_46
  let v60 : BitVec 32 := Scalar.addi c0_i32_45 v59
  let c1_i32_48 : BitVec 32 := 1#32
  let arg18 : BitVec 32 := Scf.iv v60 c1_i32_48 k0_t4
  let c512_i32_100 : BitVec 32 := 512#32
  let v145 : BitVec 32 := Scalar.muli arg18 c512_i32_100
  let v146 : BitVec 32 := v145
  let v147 : Index := Scalar.indexCast v146
  ![0, v147.toNat]
@[reducible] def k0_t5_loop (i : grid0.Coords) : Scf.Loop 32 :=
  let c0_i32_59 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v76 : BitVec 32 := Scalar.subi v40 c0_i32_59
  let c1_i32_60 : BitVec 32 := 1#32
  let v78 : BitVec 32 := Scalar.divsi v76 c1_i32_60
  let v79 : BitVec 32 := Scalar.muli v78 c1_i32_60
  let v80 : BitVec 32 := Scalar.addi c0_i32_59 v79
  let c1_i32_61 : BitVec 32 := 1#32
  ⟨c0_i32_59, v80, c1_i32_61⟩
def k0_mult9 (i : grid0.Coords) (k0_t5 : Fin (k0_t5_loop i).trips) : BitVec 32 :=
  let c0_i32_59 : BitVec 32 := 0#32
  let c1_i32_61 : BitVec 32 := 1#32
  let arg18 : BitVec 32 := Scf.iv c0_i32_59 c1_i32_61 k0_t5
  let c512_i32 : BitVec 32 := 512#32
  let v137 : BitVec 32 := Scalar.muli arg18 c512_i32
  v137
def k0_off11 (i : grid0.Coords) (k0_t5 : Fin (k0_t5_loop i).trips) : Fin 2 → Nat :=
  let c0_i32_59 : BitVec 32 := 0#32
  let c1_i32_61 : BitVec 32 := 1#32
  let arg18 : BitVec 32 := Scf.iv c0_i32_59 c1_i32_61 k0_t5
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult10 (i : grid0.Coords) (k0_t5 : Fin (k0_t5_loop i).trips) : BitVec 32 :=
  let c0_i32_59 : BitVec 32 := 0#32
  let c1_i32_61 : BitVec 32 := 1#32
  let arg18 : BitVec 32 := Scf.iv c0_i32_59 c1_i32_61 k0_t5
  let c512_i32_99 : BitVec 32 := 512#32
  let v144 : BitVec 32 := Scalar.muli arg18 c512_i32_99
  v144
def k0_off12 (i : grid0.Coords) (k0_t5 : Fin (k0_t5_loop i).trips) : Fin 2 → Nat :=
  let c0_i32_59 : BitVec 32 := 0#32
  let c1_i32_61 : BitVec 32 := 1#32
  let arg18 : BitVec 32 := Scf.iv c0_i32_59 c1_i32_61 k0_t5
  let c512_i32_99 : BitVec 32 := 512#32
  let v144 : BitVec 32 := Scalar.muli arg18 c512_i32_99
  let v145 : BitVec 32 := v144
  let v146 : Index := Scalar.indexCast v145
  let c0_100 : Index := 0#32
  ![v146.toNat, 0]
@[reducible] def k0_t6_loop (i : grid0.Coords) : Scf.Loop 32 :=
  let c0_i32_59 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v76 : BitVec 32 := Scalar.subi v40 c0_i32_59
  let c1_i32_60 : BitVec 32 := 1#32
  let v78 : BitVec 32 := Scalar.divsi v76 c1_i32_60
  let v79 : BitVec 32 := Scalar.muli v78 c1_i32_60
  let v80 : BitVec 32 := Scalar.addi c0_i32_59 v79
  let v77 : BitVec 32 := Scalar.addi c0_i32_59 v76
  let c1_i32_62 : BitVec 32 := 1#32
  ⟨v80, v77, c1_i32_62⟩
def k0_mult11 (i : grid0.Coords) (k0_t6 : Fin (k0_t6_loop i).trips) : BitVec 32 :=
  let c0_i32_59 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v76 : BitVec 32 := Scalar.subi v40 c0_i32_59
  let c1_i32_60 : BitVec 32 := 1#32
  let v78 : BitVec 32 := Scalar.divsi v76 c1_i32_60
  let v79 : BitVec 32 := Scalar.muli v78 c1_i32_60
  let v80 : BitVec 32 := Scalar.addi c0_i32_59 v79
  let c1_i32_62 : BitVec 32 := 1#32
  let arg18 : BitVec 32 := Scf.iv v80 c1_i32_62 k0_t6
  let c512_i32 : BitVec 32 := 512#32
  let v137 : BitVec 32 := Scalar.muli arg18 c512_i32
  v137
def k0_off13 (i : grid0.Coords) (k0_t6 : Fin (k0_t6_loop i).trips) : Fin 2 → Nat :=
  let c0_i32_59 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v76 : BitVec 32 := Scalar.subi v40 c0_i32_59
  let c1_i32_60 : BitVec 32 := 1#32
  let v78 : BitVec 32 := Scalar.divsi v76 c1_i32_60
  let v79 : BitVec 32 := Scalar.muli v78 c1_i32_60
  let v80 : BitVec 32 := Scalar.addi c0_i32_59 v79
  let c1_i32_62 : BitVec 32 := 1#32
  let arg18 : BitVec 32 := Scf.iv v80 c1_i32_62 k0_t6
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult12 (i : grid0.Coords) (k0_t6 : Fin (k0_t6_loop i).trips) : BitVec 32 :=
  let c0_i32_59 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v76 : BitVec 32 := Scalar.subi v40 c0_i32_59
  let c1_i32_60 : BitVec 32 := 1#32
  let v78 : BitVec 32 := Scalar.divsi v76 c1_i32_60
  let v79 : BitVec 32 := Scalar.muli v78 c1_i32_60
  let v80 : BitVec 32 := Scalar.addi c0_i32_59 v79
  let c1_i32_62 : BitVec 32 := 1#32
  let arg18 : BitVec 32 := Scf.iv v80 c1_i32_62 k0_t6
  let c512_i32_99 : BitVec 32 := 512#32
  let v144 : BitVec 32 := Scalar.muli arg18 c512_i32_99
  v144
def k0_off14 (i : grid0.Coords) (k0_t6 : Fin (k0_t6_loop i).trips) : Fin 2 → Nat :=
  let c0_i32_59 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v76 : BitVec 32 := Scalar.subi v40 c0_i32_59
  let c1_i32_60 : BitVec 32 := 1#32
  let v78 : BitVec 32 := Scalar.divsi v76 c1_i32_60
  let v79 : BitVec 32 := Scalar.muli v78 c1_i32_60
  let v80 : BitVec 32 := Scalar.addi c0_i32_59 v79
  let c1_i32_62 : BitVec 32 := 1#32
  let arg18 : BitVec 32 := Scf.iv v80 c1_i32_62 k0_t6
  let c512_i32_99 : BitVec 32 := 512#32
  let v144 : BitVec 32 := Scalar.muli arg18 c512_i32_99
  let v145 : BitVec 32 := v144
  let v146 : Index := Scalar.indexCast v145
  let c0_100 : Index := 0#32
  ![v146.toNat, 0]
@[reducible] def k0_t7_loop (i : grid0.Coords) : Scf.Loop 32 :=
  let c0_i32_67 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v88 : BitVec 32 := Scalar.subi v40 c0_i32_67
  let c1_i32_68 : BitVec 32 := 1#32
  let v90 : BitVec 32 := Scalar.divsi v88 c1_i32_68
  let v91 : BitVec 32 := Scalar.muli v90 c1_i32_68
  let v92 : BitVec 32 := Scalar.addi c0_i32_67 v91
  let c1_i32_69 : BitVec 32 := 1#32
  ⟨c0_i32_67, v92, c1_i32_69⟩
def k0_mult13 (i : grid0.Coords) (k0_t7 : Fin (k0_t7_loop i).trips) : BitVec 32 :=
  let c0_i32_67 : BitVec 32 := 0#32
  let c1_i32_69 : BitVec 32 := 1#32
  let arg18 : BitVec 32 := Scf.iv c0_i32_67 c1_i32_69 k0_t7
  let c512_i32 : BitVec 32 := 512#32
  let v137 : BitVec 32 := Scalar.muli arg18 c512_i32
  v137
def k0_off15 (i : grid0.Coords) (k0_t7 : Fin (k0_t7_loop i).trips) : Fin 2 → Nat :=
  let c0_i32_67 : BitVec 32 := 0#32
  let c1_i32_69 : BitVec 32 := 1#32
  let arg18 : BitVec 32 := Scf.iv c0_i32_67 c1_i32_69 k0_t7
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult14 (i : grid0.Coords) (k0_t7 : Fin (k0_t7_loop i).trips) : BitVec 32 :=
  let c0_i32_67 : BitVec 32 := 0#32
  let c1_i32_69 : BitVec 32 := 1#32
  let arg18 : BitVec 32 := Scf.iv c0_i32_67 c1_i32_69 k0_t7
  let c512_i32_100 : BitVec 32 := 512#32
  let v145 : BitVec 32 := Scalar.muli arg18 c512_i32_100
  v145
def k0_off16 (i : grid0.Coords) (k0_t7 : Fin (k0_t7_loop i).trips) : Fin 2 → Nat :=
  let c0_101 : Index := 0#32
  let c0_i32_67 : BitVec 32 := 0#32
  let c1_i32_69 : BitVec 32 := 1#32
  let arg18 : BitVec 32 := Scf.iv c0_i32_67 c1_i32_69 k0_t7
  let c512_i32_100 : BitVec 32 := 512#32
  let v145 : BitVec 32 := Scalar.muli arg18 c512_i32_100
  let v146 : BitVec 32 := v145
  let v147 : Index := Scalar.indexCast v146
  ![0, v147.toNat]
@[reducible] def k0_t8_loop (i : grid0.Coords) : Scf.Loop 32 :=
  let c0_i32_67 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v88 : BitVec 32 := Scalar.subi v40 c0_i32_67
  let c1_i32_68 : BitVec 32 := 1#32
  let v90 : BitVec 32 := Scalar.divsi v88 c1_i32_68
  let v91 : BitVec 32 := Scalar.muli v90 c1_i32_68
  let v92 : BitVec 32 := Scalar.addi c0_i32_67 v91
  let v89 : BitVec 32 := Scalar.addi c0_i32_67 v88
  let c1_i32_70 : BitVec 32 := 1#32
  ⟨v92, v89, c1_i32_70⟩
def k0_mult15 (i : grid0.Coords) (k0_t8 : Fin (k0_t8_loop i).trips) : BitVec 32 :=
  let c0_i32_67 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v88 : BitVec 32 := Scalar.subi v40 c0_i32_67
  let c1_i32_68 : BitVec 32 := 1#32
  let v90 : BitVec 32 := Scalar.divsi v88 c1_i32_68
  let v91 : BitVec 32 := Scalar.muli v90 c1_i32_68
  let v92 : BitVec 32 := Scalar.addi c0_i32_67 v91
  let c1_i32_70 : BitVec 32 := 1#32
  let arg18 : BitVec 32 := Scf.iv v92 c1_i32_70 k0_t8
  let c512_i32 : BitVec 32 := 512#32
  let v137 : BitVec 32 := Scalar.muli arg18 c512_i32
  v137
def k0_off17 (i : grid0.Coords) (k0_t8 : Fin (k0_t8_loop i).trips) : Fin 2 → Nat :=
  let c0_i32_67 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v88 : BitVec 32 := Scalar.subi v40 c0_i32_67
  let c1_i32_68 : BitVec 32 := 1#32
  let v90 : BitVec 32 := Scalar.divsi v88 c1_i32_68
  let v91 : BitVec 32 := Scalar.muli v90 c1_i32_68
  let v92 : BitVec 32 := Scalar.addi c0_i32_67 v91
  let c1_i32_70 : BitVec 32 := 1#32
  let arg18 : BitVec 32 := Scf.iv v92 c1_i32_70 k0_t8
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult16 (i : grid0.Coords) (k0_t8 : Fin (k0_t8_loop i).trips) : BitVec 32 :=
  let c0_i32_67 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v88 : BitVec 32 := Scalar.subi v40 c0_i32_67
  let c1_i32_68 : BitVec 32 := 1#32
  let v90 : BitVec 32 := Scalar.divsi v88 c1_i32_68
  let v91 : BitVec 32 := Scalar.muli v90 c1_i32_68
  let v92 : BitVec 32 := Scalar.addi c0_i32_67 v91
  let c1_i32_70 : BitVec 32 := 1#32
  let arg18 : BitVec 32 := Scf.iv v92 c1_i32_70 k0_t8
  let c512_i32_100 : BitVec 32 := 512#32
  let v145 : BitVec 32 := Scalar.muli arg18 c512_i32_100
  v145
def k0_off18 (i : grid0.Coords) (k0_t8 : Fin (k0_t8_loop i).trips) : Fin 2 → Nat :=
  let c0_101 : Index := 0#32
  let c0_i32_67 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v88 : BitVec 32 := Scalar.subi v40 c0_i32_67
  let c1_i32_68 : BitVec 32 := 1#32
  let v90 : BitVec 32 := Scalar.divsi v88 c1_i32_68
  let v91 : BitVec 32 := Scalar.muli v90 c1_i32_68
  let v92 : BitVec 32 := Scalar.addi c0_i32_67 v91
  let c1_i32_70 : BitVec 32 := 1#32
  let arg18 : BitVec 32 := Scf.iv v92 c1_i32_70 k0_t8
  let c512_i32_100 : BitVec 32 := 512#32
  let v145 : BitVec 32 := Scalar.muli arg18 c512_i32_100
  let v146 : BitVec 32 := v145
  let v147 : Index := Scalar.indexCast v146
  ![0, v147.toNat]
@[reducible] def k0_t9_loop (i : grid0.Coords) : Scf.Loop 32 :=
  let c0_i32_80 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v108 : BitVec 32 := Scalar.subi v40 c0_i32_80
  let c1_i32_81 : BitVec 32 := 1#32
  let v110 : BitVec 32 := Scalar.divsi v108 c1_i32_81
  let v111 : BitVec 32 := Scalar.muli v110 c1_i32_81
  let v112 : BitVec 32 := Scalar.addi c0_i32_80 v111
  let c1_i32_82 : BitVec 32 := 1#32
  ⟨c0_i32_80, v112, c1_i32_82⟩
def k0_mult17 (i : grid0.Coords) (k0_t9 : Fin (k0_t9_loop i).trips) : BitVec 32 :=
  let c0_i32_80 : BitVec 32 := 0#32
  let c1_i32_82 : BitVec 32 := 1#32
  let arg18 : BitVec 32 := Scf.iv c0_i32_80 c1_i32_82 k0_t9
  let c512_i32 : BitVec 32 := 512#32
  let v137 : BitVec 32 := Scalar.muli arg18 c512_i32
  v137
def k0_off19 (i : grid0.Coords) (k0_t9 : Fin (k0_t9_loop i).trips) : Fin 2 → Nat :=
  let c0_i32_80 : BitVec 32 := 0#32
  let c1_i32_82 : BitVec 32 := 1#32
  let arg18 : BitVec 32 := Scf.iv c0_i32_80 c1_i32_82 k0_t9
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult18 (i : grid0.Coords) (k0_t9 : Fin (k0_t9_loop i).trips) : BitVec 32 :=
  let c0_i32_80 : BitVec 32 := 0#32
  let c1_i32_82 : BitVec 32 := 1#32
  let arg18 : BitVec 32 := Scf.iv c0_i32_80 c1_i32_82 k0_t9
  let c512_i32_99 : BitVec 32 := 512#32
  let v144 : BitVec 32 := Scalar.muli arg18 c512_i32_99
  v144
def k0_off20 (i : grid0.Coords) (k0_t9 : Fin (k0_t9_loop i).trips) : Fin 2 → Nat :=
  let c0_i32_80 : BitVec 32 := 0#32
  let c1_i32_82 : BitVec 32 := 1#32
  let arg18 : BitVec 32 := Scf.iv c0_i32_80 c1_i32_82 k0_t9
  let c512_i32_99 : BitVec 32 := 512#32
  let v144 : BitVec 32 := Scalar.muli arg18 c512_i32_99
  let v145 : BitVec 32 := v144
  let v146 : Index := Scalar.indexCast v145
  let c0_100 : Index := 0#32
  ![v146.toNat, 0]
@[reducible] def k0_t10_loop (i : grid0.Coords) : Scf.Loop 32 :=
  let c0_i32_80 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v108 : BitVec 32 := Scalar.subi v40 c0_i32_80
  let c1_i32_81 : BitVec 32 := 1#32
  let v110 : BitVec 32 := Scalar.divsi v108 c1_i32_81
  let v111 : BitVec 32 := Scalar.muli v110 c1_i32_81
  let v112 : BitVec 32 := Scalar.addi c0_i32_80 v111
  let v109 : BitVec 32 := Scalar.addi c0_i32_80 v108
  let c1_i32_83 : BitVec 32 := 1#32
  ⟨v112, v109, c1_i32_83⟩
def k0_mult19 (i : grid0.Coords) (k0_t10 : Fin (k0_t10_loop i).trips) : BitVec 32 :=
  let c0_i32_80 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v108 : BitVec 32 := Scalar.subi v40 c0_i32_80
  let c1_i32_81 : BitVec 32 := 1#32
  let v110 : BitVec 32 := Scalar.divsi v108 c1_i32_81
  let v111 : BitVec 32 := Scalar.muli v110 c1_i32_81
  let v112 : BitVec 32 := Scalar.addi c0_i32_80 v111
  let c1_i32_83 : BitVec 32 := 1#32
  let arg18 : BitVec 32 := Scf.iv v112 c1_i32_83 k0_t10
  let c512_i32 : BitVec 32 := 512#32
  let v137 : BitVec 32 := Scalar.muli arg18 c512_i32
  v137
def k0_off21 (i : grid0.Coords) (k0_t10 : Fin (k0_t10_loop i).trips) : Fin 2 → Nat :=
  let c0_i32_80 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v108 : BitVec 32 := Scalar.subi v40 c0_i32_80
  let c1_i32_81 : BitVec 32 := 1#32
  let v110 : BitVec 32 := Scalar.divsi v108 c1_i32_81
  let v111 : BitVec 32 := Scalar.muli v110 c1_i32_81
  let v112 : BitVec 32 := Scalar.addi c0_i32_80 v111
  let c1_i32_83 : BitVec 32 := 1#32
  let arg18 : BitVec 32 := Scf.iv v112 c1_i32_83 k0_t10
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult20 (i : grid0.Coords) (k0_t10 : Fin (k0_t10_loop i).trips) : BitVec 32 :=
  let c0_i32_80 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v108 : BitVec 32 := Scalar.subi v40 c0_i32_80
  let c1_i32_81 : BitVec 32 := 1#32
  let v110 : BitVec 32 := Scalar.divsi v108 c1_i32_81
  let v111 : BitVec 32 := Scalar.muli v110 c1_i32_81
  let v112 : BitVec 32 := Scalar.addi c0_i32_80 v111
  let c1_i32_83 : BitVec 32 := 1#32
  let arg18 : BitVec 32 := Scf.iv v112 c1_i32_83 k0_t10
  let c512_i32_99 : BitVec 32 := 512#32
  let v144 : BitVec 32 := Scalar.muli arg18 c512_i32_99
  v144
def k0_off22 (i : grid0.Coords) (k0_t10 : Fin (k0_t10_loop i).trips) : Fin 2 → Nat :=
  let c0_i32_80 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v108 : BitVec 32 := Scalar.subi v40 c0_i32_80
  let c1_i32_81 : BitVec 32 := 1#32
  let v110 : BitVec 32 := Scalar.divsi v108 c1_i32_81
  let v111 : BitVec 32 := Scalar.muli v110 c1_i32_81
  let v112 : BitVec 32 := Scalar.addi c0_i32_80 v111
  let c1_i32_83 : BitVec 32 := 1#32
  let arg18 : BitVec 32 := Scf.iv v112 c1_i32_83 k0_t10
  let c512_i32_99 : BitVec 32 := 512#32
  let v144 : BitVec 32 := Scalar.muli arg18 c512_i32_99
  let v145 : BitVec 32 := v144
  let v146 : Index := Scalar.indexCast v145
  let c0_100 : Index := 0#32
  ![v146.toNat, 0]
@[reducible] def k0_t11_loop (i : grid0.Coords) : Scf.Loop 32 :=
  let c0_i32_88 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v120 : BitVec 32 := Scalar.subi v40 c0_i32_88
  let c1_i32_89 : BitVec 32 := 1#32
  let v122 : BitVec 32 := Scalar.divsi v120 c1_i32_89
  let v123 : BitVec 32 := Scalar.muli v122 c1_i32_89
  let v124 : BitVec 32 := Scalar.addi c0_i32_88 v123
  let c1_i32_90 : BitVec 32 := 1#32
  ⟨c0_i32_88, v124, c1_i32_90⟩
def k0_mult21 (i : grid0.Coords) (k0_t11 : Fin (k0_t11_loop i).trips) : BitVec 32 :=
  let c0_i32_88 : BitVec 32 := 0#32
  let c1_i32_90 : BitVec 32 := 1#32
  let arg18 : BitVec 32 := Scf.iv c0_i32_88 c1_i32_90 k0_t11
  let c512_i32 : BitVec 32 := 512#32
  let v137 : BitVec 32 := Scalar.muli arg18 c512_i32
  v137
def k0_off23 (i : grid0.Coords) (k0_t11 : Fin (k0_t11_loop i).trips) : Fin 2 → Nat :=
  let c0_i32_88 : BitVec 32 := 0#32
  let c1_i32_90 : BitVec 32 := 1#32
  let arg18 : BitVec 32 := Scf.iv c0_i32_88 c1_i32_90 k0_t11
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult22 (i : grid0.Coords) (k0_t11 : Fin (k0_t11_loop i).trips) : BitVec 32 :=
  let c0_i32_88 : BitVec 32 := 0#32
  let c1_i32_90 : BitVec 32 := 1#32
  let arg18 : BitVec 32 := Scf.iv c0_i32_88 c1_i32_90 k0_t11
  let c512_i32_100 : BitVec 32 := 512#32
  let v145 : BitVec 32 := Scalar.muli arg18 c512_i32_100
  v145
def k0_off24 (i : grid0.Coords) (k0_t11 : Fin (k0_t11_loop i).trips) : Fin 2 → Nat :=
  let c0_101 : Index := 0#32
  let c0_i32_88 : BitVec 32 := 0#32
  let c1_i32_90 : BitVec 32 := 1#32
  let arg18 : BitVec 32 := Scf.iv c0_i32_88 c1_i32_90 k0_t11
  let c512_i32_100 : BitVec 32 := 512#32
  let v145 : BitVec 32 := Scalar.muli arg18 c512_i32_100
  let v146 : BitVec 32 := v145
  let v147 : Index := Scalar.indexCast v146
  ![0, v147.toNat]
@[reducible] def k0_t12_loop (i : grid0.Coords) : Scf.Loop 32 :=
  let c0_i32_88 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v120 : BitVec 32 := Scalar.subi v40 c0_i32_88
  let c1_i32_89 : BitVec 32 := 1#32
  let v122 : BitVec 32 := Scalar.divsi v120 c1_i32_89
  let v123 : BitVec 32 := Scalar.muli v122 c1_i32_89
  let v124 : BitVec 32 := Scalar.addi c0_i32_88 v123
  let v121 : BitVec 32 := Scalar.addi c0_i32_88 v120
  let c1_i32_91 : BitVec 32 := 1#32
  ⟨v124, v121, c1_i32_91⟩
def k0_mult23 (i : grid0.Coords) (k0_t12 : Fin (k0_t12_loop i).trips) : BitVec 32 :=
  let c0_i32_88 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v120 : BitVec 32 := Scalar.subi v40 c0_i32_88
  let c1_i32_89 : BitVec 32 := 1#32
  let v122 : BitVec 32 := Scalar.divsi v120 c1_i32_89
  let v123 : BitVec 32 := Scalar.muli v122 c1_i32_89
  let v124 : BitVec 32 := Scalar.addi c0_i32_88 v123
  let c1_i32_91 : BitVec 32 := 1#32
  let arg18 : BitVec 32 := Scf.iv v124 c1_i32_91 k0_t12
  let c512_i32 : BitVec 32 := 512#32
  let v137 : BitVec 32 := Scalar.muli arg18 c512_i32
  v137
def k0_off25 (i : grid0.Coords) (k0_t12 : Fin (k0_t12_loop i).trips) : Fin 2 → Nat :=
  let c0_i32_88 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v120 : BitVec 32 := Scalar.subi v40 c0_i32_88
  let c1_i32_89 : BitVec 32 := 1#32
  let v122 : BitVec 32 := Scalar.divsi v120 c1_i32_89
  let v123 : BitVec 32 := Scalar.muli v122 c1_i32_89
  let v124 : BitVec 32 := Scalar.addi c0_i32_88 v123
  let c1_i32_91 : BitVec 32 := 1#32
  let arg18 : BitVec 32 := Scf.iv v124 c1_i32_91 k0_t12
  let c512_i32 : BitVec 32 := 512#32
  let v137 : BitVec 32 := Scalar.muli arg18 c512_i32
  let v138 : BitVec 32 := v137
  let v139 : Index := Scalar.indexCast v138
  let c0_97 : Index := 0#32
  ![v139.toNat, 0]
def k0_mult24 (i : grid0.Coords) (k0_t12 : Fin (k0_t12_loop i).trips) : BitVec 32 :=
  let c0_i32_88 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v120 : BitVec 32 := Scalar.subi v40 c0_i32_88
  let c1_i32_89 : BitVec 32 := 1#32
  let v122 : BitVec 32 := Scalar.divsi v120 c1_i32_89
  let v123 : BitVec 32 := Scalar.muli v122 c1_i32_89
  let v124 : BitVec 32 := Scalar.addi c0_i32_88 v123
  let c1_i32_91 : BitVec 32 := 1#32
  let arg18 : BitVec 32 := Scf.iv v124 c1_i32_91 k0_t12
  let c512_i32_100 : BitVec 32 := 512#32
  let v145 : BitVec 32 := Scalar.muli arg18 c512_i32_100
  v145
def k0_off26 (i : grid0.Coords) (k0_t12 : Fin (k0_t12_loop i).trips) : Fin 2 → Nat :=
  let c0_101 : Index := 0#32
  let c0_i32_88 : BitVec 32 := 0#32
  let arg2 : BitVec 32 := BitVec.ofNat 32 (i 2).val
  let c0_i32 : BitVec 32 := 0#32
  let v39 : BitVec 1 := Scalar.cmpi .eq arg2 c0_i32
  let c4_i32 : BitVec 32 := 4#32
  let c7_i32 : BitVec 32 := 7#32
  let v40 : BitVec 32 := Scalar.select v39 c4_i32 c7_i32
  let v120 : BitVec 32 := Scalar.subi v40 c0_i32_88
  let c1_i32_89 : BitVec 32 := 1#32
  let v122 : BitVec 32 := Scalar.divsi v120 c1_i32_89
  let v123 : BitVec 32 := Scalar.muli v122 c1_i32_89
  let v124 : BitVec 32 := Scalar.addi c0_i32_88 v123
  let c1_i32_91 : BitVec 32 := 1#32
  let arg18 : BitVec 32 := Scf.iv v124 c1_i32_91 k0_t12
  let c512_i32_100 : BitVec 32 := 512#32
  let v145 : BitVec 32 := Scalar.muli arg18 c512_i32_100
  let v146 : BitVec 32 := v145
  let v147 : Index := Scalar.indexCast v146
  ![0, v147.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![arg0.toNat, v1.toNat, arg2.toNat, c0_i32.toNat]

def cc0_transform_3 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![arg0.toNat, v1.toNat, arg2.toNat, c0_i32.toNat]

def cc0_transform_4 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc0_transform_5 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S40) ![v0.toNat] S1.size (k0_off1_inb i)) numel1_S1
  let c63_i32 : BitVec 32 := 63#32
  let c0_i32 : BitVec 32 := 0#32
  let c0_i32_0 : BitVec 32 := 0#32
  ![arg0.toNat, v1.toNat, c63_i32.toNat, c0_i32.toNat]

def cc0_transform_6 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![arg0.toNat, v1.toNat, c0_i32.toNat, arg2.toNat]

def cc0_transform_7 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc0_transform_8 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S40) ![v0.toNat] S1.size (k0_off1_inb i)) numel1_S1
  let c0_i32 : BitVec 32 := 0#32
  let c63_i32 : BitVec 32 := 63#32
  let c0_i32_0 : BitVec 32 := 0#32
  ![arg0.toNat, v1.toNat, c0_i32.toNat, c63_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S2x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S2x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1536x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1536x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1536x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128x1536 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x1536 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x128x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1536x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== RefIdeal.lean ====
abbrev S2x32768x40x128 : Shape := ⟨4, ![2, 32768, 40, 128]⟩
abbrev S2x40 : Shape := ⟨2, ![2, 40]⟩
abbrev S40 : Shape := ⟨1, ![40]⟩
abbrev S27 : Shape := ⟨1, ![27]⟩
abbrev S_ : Shape := ⟨0, ![]⟩
abbrev S27x1 : Shape := ⟨2, ![27, 1]⟩
abbrev S1 : Shape := ⟨1, ![1]⟩
abbrev S1x1 : Shape := ⟨2, ![1, 1]⟩
abbrev S2x32768x27x128 : Shape := ⟨4, ![2, 32768, 27, 128]⟩
abbrev S2x27 : Shape := ⟨2, ![2, 27]⟩
abbrev S2x1x27x1x1 : Shape := ⟨5, ![2, 1, 27, 1, 1]⟩
abbrev S2x1x1x27x1 : Shape := ⟨5, ![2, 1, 1, 27, 1]⟩
abbrev S2x32256x27x128 : Shape := ⟨4, ![2, 32256, 27, 128]⟩
abbrev S2x21x1536x27x128 : Shape := ⟨5, ![2, 21, 1536, 27, 128]⟩
abbrev S2x1x1536x27x128 : Shape := ⟨5, ![2, 1, 1536, 27, 128]⟩
abbrev S2x1536x27x128 : Shape := ⟨4, ![2, 1536, 27, 128]⟩
abbrev S2x512x27x128 : Shape := ⟨4, ![2, 512, 27, 128]⟩
abbrev S21 : Shape := ⟨1, ![21]⟩
abbrev S1x21x1x1x1 : Shape := ⟨5, ![1, 21, 1, 1, 1]⟩
abbrev S2x21x27x1536x1536 : Shape := ⟨5, ![2, 21, 27, 1536, 1536]⟩
abbrev S2x27x1536x21x1536 : Shape := ⟨5, ![2, 27, 1536, 21, 1536]⟩
abbrev S2x27x512x21x1536 : Shape := ⟨5, ![2, 27, 512, 21, 1536]⟩
abbrev S2x21x27x1536x512 : Shape := ⟨5, ![2, 21, 27, 1536, 512]⟩
abbrev S2x21x27x1536 : Shape := ⟨4, ![2, 21, 27, 1536]⟩
abbrev S2x21x27x1536x1 : Shape := ⟨5, ![2, 21, 27, 1536, 1]⟩
abbrev S2x21x27x128x1536 : Shape := ⟨5, ![2, 21, 27, 128, 1536]⟩
abbrev S2x27x128x21x1536 : Shape := ⟨5, ![2, 27, 128, 21, 1536]⟩
abbrev S2x32256x3456 : Shape := ⟨3, ![2, 32256, 3456]⟩

abbrev nBuf : Space → Nat
  | .hbm => 243
  | .vmem => 6
  | .smem => 0
  | _ => 0

abbrev hbmTy0_0 (i : Nat) : BufTy := match i % 128 with
  | 0 => ⟨S2x32768x40x128, .fp8e4m3⟩
  | 1 => ⟨S2x32768x40x128, .fp8e4m3⟩
  | 2 => ⟨S2x32768x40x128, .fp8e4m3⟩
  | 3 => ⟨S2x40, .f32⟩
  | 4 => ⟨S2x40, .f32⟩
  | 5 => ⟨S2x40, .f32⟩
  | 6 => ⟨S40, .i32⟩
  | 7 => ⟨S2x32768x40x128, .f32⟩
  | 8 => ⟨S2x32768x40x128, .f32⟩
  | 9 => ⟨S2x32768x40x128, .bf16⟩
  | 10 => ⟨S27, .i32⟩
  | 11 => ⟨S_, .i32⟩
  | 12 => ⟨S27, .i32⟩
  | 13 => ⟨S27, .i1⟩
  | 14 => ⟨S_, .i32⟩
  | 15 => ⟨S27, .i32⟩
  | 16 => ⟨S27, .i32⟩
  | 17 => ⟨S27, .i32⟩
  | 18 => ⟨S27x1, .i32⟩
  | 19 => ⟨S1, .i32⟩
  | 20 => ⟨S_, .i32⟩
  | 21 => ⟨S27x1, .i32⟩
  | 22 => ⟨S27x1, .i1⟩
  | 23 => ⟨S1x1, .i32⟩
  | 24 => ⟨S27x1, .i32⟩
  | 25 => ⟨S27x1, .i1⟩
  | 26 => ⟨S27x1, .i1⟩
  | 27 => ⟨S_, .i1⟩
  | 28 => ⟨S27, .i1⟩
  | 29 => ⟨S2x32768x27x128, .f32⟩
  | 30 => ⟨S2x32768x27x128, .i1⟩
  | 31 => ⟨S_, .f32⟩
  | 32 => ⟨S2x32768x27x128, .f32⟩
  | 33 => ⟨S2x32768x27x128, .f32⟩
  | 34 => ⟨S_, .i32⟩
  | 35 => ⟨S27, .i32⟩
  | 36 => ⟨S27, .i1⟩
  | 37 => ⟨S_, .i32⟩
  | 38 => ⟨S27, .i32⟩
  | 39 => ⟨S27, .i32⟩
  | 40 => ⟨S27, .i32⟩
  | 41 => ⟨S27x1, .i32⟩
  | 42 => ⟨S1, .i32⟩
  | 43 => ⟨S_, .i32⟩
  | 44 => ⟨S27x1, .i32⟩
  | 45 => ⟨S27x1, .i1⟩
  | 46 => ⟨S1x1, .i32⟩
  | 47 => ⟨S27x1, .i32⟩
  | 48 => ⟨S27x1, .i1⟩
  | 49 => ⟨S27x1, .i1⟩
  | 50 => ⟨S_, .i1⟩
  | 51 => ⟨S27, .i1⟩
  | 52 => ⟨S2x32768x27x128, .f32⟩
  | 53 => ⟨S2x32768x27x128, .i1⟩
  | 54 => ⟨S_, .f32⟩
  | 55 => ⟨S2x32768x27x128, .f32⟩
  | 56 => ⟨S2x32768x27x128, .f32⟩
  | 57 => ⟨S_, .i32⟩
  | 58 => ⟨S27, .i32⟩
  | 59 => ⟨S27, .i1⟩
  | 60 => ⟨S_, .i32⟩
  | 61 => ⟨S27, .i32⟩
  | 62 => ⟨S27, .i32⟩
  | 63 => ⟨S27, .i32⟩
  | 64 => ⟨S27x1, .i32⟩
  | 65 => ⟨S1, .i32⟩
  | 66 => ⟨S_, .i32⟩
  | 67 => ⟨S27x1, .i32⟩
  | 68 => ⟨S27x1, .i1⟩
  | 69 => ⟨S1x1, .i32⟩
  | 70 => ⟨S27x1, .i32⟩
  | 71 => ⟨S27x1, .i1⟩
  | 72 => ⟨S27x1, .i1⟩
  | 73 => ⟨S_, .i1⟩
  | 74 => ⟨S27, .i1⟩
  | 75 => ⟨S2x32768x27x128, .bf16⟩
  | 76 => ⟨S2x32768x27x128, .i1⟩
  | 77 => ⟨S_, .bf16⟩
  | 78 => ⟨S2x32768x27x128, .bf16⟩
  | 79 => ⟨S2x32768x27x128, .bf16⟩
  | 80 => ⟨S_, .i32⟩
  | 81 => ⟨S27, .i32⟩
  | 82 => ⟨S27, .i1⟩
  | 83 => ⟨S_, .i32⟩
  | 84 => ⟨S27, .i32⟩
  | 85 => ⟨S27, .i32⟩
  | 86 => ⟨S27, .i32⟩
  | 87 => ⟨S27x1, .i32⟩
  | 88 => ⟨S1, .i32⟩
  | 89 => ⟨S_, .i32⟩
  | 90 => ⟨S27x1, .i32⟩
  | 91 => ⟨S27x1, .i1⟩
  | 92 => ⟨S1x1, .i32⟩
  | 93 => ⟨S27x1, .i32⟩
  | 94 => ⟨S27x1, .i1⟩
  | 95 => ⟨S27x1, .i1⟩
  | 96 => ⟨S_, .i1⟩
  | 97 => ⟨S27, .i1⟩
  | 98 => ⟨S2x27, .f32⟩
  | 99 => ⟨S2x27, .i1⟩
  | 100 => ⟨S_, .f32⟩
  | 101 => ⟨S2x27, .f32⟩
  | 102 => ⟨S2x27, .f32⟩
  | 103 => ⟨S_, .i32⟩
  | 104 => ⟨S27, .i32⟩
  | 105 => ⟨S27, .i1⟩
  | 106 => ⟨S_, .i32⟩
  | 107 => ⟨S27, .i32⟩
  | 108 => ⟨S27, .i32⟩
  | 109 => ⟨S27, .i32⟩
  | 110 => ⟨S27x1, .i32⟩
  | 111 => ⟨S1, .i32⟩
  | 112 => ⟨S_, .i32⟩
  | 113 => ⟨S27x1, .i32⟩
  | 114 => ⟨S27x1, .i1⟩
  | 115 => ⟨S1x1, .i32⟩
  | 116 => ⟨S27x1, .i32⟩
  | 117 => ⟨S27x1, .i1⟩
  | 118 => ⟨S27x1, .i1⟩
  | 119 => ⟨S_, .i1⟩
  | 120 => ⟨S27, .i1⟩
  | 121 => ⟨S2x27, .f32⟩
  | 122 => ⟨S2x27, .i1⟩
  | 123 => ⟨S_, .f32⟩
  | 124 => ⟨S2x27, .f32⟩
  | 125 => ⟨S2x27, .f32⟩
  | 126 => ⟨S2x27, .f32⟩
  | 127 => ⟨S_, .f32⟩
  | _ => ⟨S2x32768x40x128, .fp8e4m3⟩

abbrev hbmTy0_1 (i : Nat) : BufTy := match i % 128 with
  | 0 => ⟨S2x27, .f32⟩
  | 1 => ⟨S2x27, .f32⟩
  | 2 => ⟨S2x1x27x1x1, .f32⟩
  | 3 => ⟨S_, .i32⟩
  | 4 => ⟨S27, .i32⟩
  | 5 => ⟨S27, .i1⟩
  | 6 => ⟨S_, .i32⟩
  | 7 => ⟨S27, .i32⟩
  | 8 => ⟨S27, .i32⟩
  | 9 => ⟨S27, .i32⟩
  | 10 => ⟨S27x1, .i32⟩
  | 11 => ⟨S1, .i32⟩
  | 12 => ⟨S_, .i32⟩
  | 13 => ⟨S27x1, .i32⟩
  | 14 => ⟨S27x1, .i1⟩
  | 15 => ⟨S1x1, .i32⟩
  | 16 => ⟨S27x1, .i32⟩
  | 17 => ⟨S27x1, .i1⟩
  | 18 => ⟨S27x1, .i1⟩
  | 19 => ⟨S_, .i1⟩
  | 20 => ⟨S27, .i1⟩
  | 21 => ⟨S2x27, .f32⟩
  | 22 => ⟨S2x27, .i1⟩
  | 23 => ⟨S_, .f32⟩
  | 24 => ⟨S2x27, .f32⟩
  | 25 => ⟨S2x27, .f32⟩
  | 26 => ⟨S2x1x1x27x1, .f32⟩
  | 27 => ⟨S2x32256x27x128, .f32⟩
  | 28 => ⟨S2x21x1536x27x128, .f32⟩
  | 29 => ⟨S2x32256x27x128, .f32⟩
  | 30 => ⟨S2x21x1536x27x128, .f32⟩
  | 31 => ⟨S2x32256x27x128, .bf16⟩
  | 32 => ⟨S2x21x1536x27x128, .bf16⟩
  | 33 => ⟨S2x1x1536x27x128, .f32⟩
  | 34 => ⟨S2x1536x27x128, .f32⟩
  | 35 => ⟨S2x1x1536x27x128, .bf16⟩
  | 36 => ⟨S2x1536x27x128, .bf16⟩
  | 37 => ⟨S2x512x27x128, .f32⟩
  | 38 => ⟨S2x512x27x128, .bf16⟩
  | 39 => ⟨S21, .i32⟩
  | 40 => ⟨S_, .i32⟩
  | 41 => ⟨S21, .i32⟩
  | 42 => ⟨S21, .i1⟩
  | 43 => ⟨S1x21x1x1x1, .i1⟩
  | 44 => ⟨S2x21x27x1536x1536, .f32⟩
  | 45 => ⟨S2x21x27x1536x1536, .f32⟩
  | 46 => ⟨S2x21x27x1536x1536, .f32⟩
  | 47 => ⟨S2x27x1536x21x1536, .f32⟩
  | 48 => ⟨S2x21x27x1536x1536, .f32⟩
  | 49 => ⟨S2x21x27x1536x1536, .f32⟩
  | 50 => ⟨S2x21x27x1536x1536, .f32⟩
  | 51 => ⟨S_, .f32⟩
  | 52 => ⟨S_, .f32⟩
  | 53 => ⟨S2x21x27x1536x1536, .i1⟩
  | 54 => ⟨S2x21x27x1536x1536, .f32⟩
  | 55 => ⟨S2x21x27x1536x1536, .f32⟩
  | 56 => ⟨S2x27x512x21x1536, .f32⟩
  | 57 => ⟨S2x21x27x1536x512, .f32⟩
  | 58 => ⟨S2x21x27x1536x512, .f32⟩
  | 59 => ⟨S2x21x27x1536x512, .f32⟩
  | 60 => ⟨S_, .f32⟩
  | 61 => ⟨S2x21x27x1536, .f32⟩
  | 62 => ⟨S2x21x27x1536x1, .f32⟩
  | 63 => ⟨S_, .f32⟩
  | 64 => ⟨S2x21x27x1536, .f32⟩
  | 65 => ⟨S2x21x27x1536x1, .f32⟩
  | 66 => ⟨S2x21x27x1536x1, .f32⟩
  | 67 => ⟨S_, .f32⟩
  | 68 => ⟨S2x21x27x1536, .f32⟩
  | 69 => ⟨S2x21x27x1536x1, .f32⟩
  | 70 => ⟨S2x21x27x1536x1, .f32⟩
  | 71 => ⟨S2x21x27x1536x1536, .f32⟩
  | 72 => ⟨S2x21x27x1536x1536, .f32⟩
  | 73 => ⟨S2x21x27x1536x1536, .f32⟩
  | 74 => ⟨S2x21x27x1536x1536, .f32⟩
  | 75 => ⟨S2x21x27x1536x1536, .f32⟩
  | 76 => ⟨S2x21x27x1536x1536, .f32⟩
  | 77 => ⟨S2x21x27x1536x512, .f32⟩
  | 78 => ⟨S2x21x27x1536x512, .f32⟩
  | 79 => ⟨S2x21x27x1536x512, .f32⟩
  | 80 => ⟨S_, .f32⟩
  | 81 => ⟨S2x21x27x1536, .f32⟩
  | 82 => ⟨S2x21x27x1536x1, .f32⟩
  | 83 => ⟨S_, .f32⟩
  | 84 => ⟨S2x21x27x1536, .f32⟩
  | 85 => ⟨S2x21x27x1536x1, .f32⟩
  | 86 => ⟨S2x21x27x1536x1, .f32⟩
  | 87 => ⟨S_, .f32⟩
  | 88 => ⟨S2x21x27x1536, .f32⟩
  | 89 => ⟨S2x21x27x1536x1, .f32⟩
  | 90 => ⟨S2x21x27x1536x1, .f32⟩
  | 91 => ⟨S_, .f32⟩
  | 92 => ⟨S2x21x27x1536x1, .f32⟩
  | 93 => ⟨S2x21x27x1536x1, .f32⟩
  | 94 => ⟨S2x21x27x1536x1536, .f32⟩
  | 95 => ⟨S2x21x27x1536x1536, .f32⟩
  | 96 => ⟨S2x21x27x1536x1536, .bf16⟩
  | 97 => ⟨S2x21x27x128x1536, .f32⟩
  | 98 => ⟨S2x21x1536x27x128, .f32⟩
  | 99 => ⟨S2x21x27x1536x1536, .f32⟩
  | 100 => ⟨S2x21x27x1536x1536, .f32⟩
  | 101 => ⟨S2x21x27x1536x1536, .bf16⟩
  | 102 => ⟨S2x27x128x21x1536, .f32⟩
  | 103 => ⟨S2x21x1536x27x128, .f32⟩
  | 104 => ⟨S2x21x1536x27x128, .f32⟩
  | 105 => ⟨S2x21x27x1536x512, .f32⟩
  | 106 => ⟨S2x21x27x1536x512, .f32⟩
  | 107 => ⟨S2x21x27x1536x512, .bf16⟩
  | 108 => ⟨S2x27x128x21x1536, .f32⟩
  | 109 => ⟨S2x21x1536x27x128, .f32⟩
  | 110 => ⟨S2x21x1536x27x128, .f32⟩
  | 111 => ⟨S2x21x1536x27x128, .f32⟩
  | 112 => ⟨S2x21x1536x27x128, .f32⟩
  | 113 => ⟨S2x21x1536x27x128, .bf16⟩
  | 114 => ⟨S2x32256x3456, .bf16⟩
  | _ => ⟨S2x32768x40x128, .fp8e4m3⟩

abbrev hbmTy (i : Nat) : BufTy := match i / 128 with
  | 0 => hbmTy0_0 i
  | 1 => hbmTy0_1 i
  | _ => ⟨S2x32768x40x128, .fp8e4m3⟩

abbrev bufTy : (tb : Table) → Fin (tcTables nBuf tb) → BufTy
  | .hbm, ⟨i, _⟩ => hbmTy i
  | .local _ .vmem, ⟨0, _⟩ => ⟨S2x32768x40x128, .fp8e4m3⟩
  | .local _ .vmem, ⟨1, _⟩ => ⟨S2x32768x40x128, .fp8e4m3⟩
  | .local _ .vmem, ⟨2, _⟩ => ⟨S2x32768x40x128, .fp8e4m3⟩
  | .local _ .vmem, ⟨3, _⟩ => ⟨S2x32768x40x128, .f32⟩
  | .local _ .vmem, ⟨4, _⟩ => ⟨S2x32768x40x128, .f32⟩
  | .local _ .vmem, ⟨5, _⟩ => ⟨S2x32768x40x128, .bf16⟩
  | _, _ => ⟨S2x32768x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v3 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v4 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v5 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_v14 : Ref sig .tc := ⟨.hbm, 122, rfl⟩
abbrev main_call4_cst : Ref sig .tc := ⟨.hbm, 123, rfl⟩
abbrev main_call4_v15 : Ref sig .tc := ⟨.hbm, 124, rfl⟩
abbrev main_v6 : Ref sig .tc := ⟨.hbm, 125, rfl⟩
abbrev main_v7 : Ref sig .tc := ⟨.hbm, 126, rfl⟩
abbrev main_cst : Ref sig .tc := ⟨.hbm, 127, rfl⟩
abbrev main_v8 : Ref sig .tc := ⟨.hbm, 128, rfl⟩
abbrev main_v9 : Ref sig .tc := ⟨.hbm, 129, rfl⟩
abbrev main_v10 : Ref sig .tc := ⟨.hbm, 130, rfl⟩
abbrev main_call5_c : Ref sig .tc := ⟨.hbm, 131, rfl⟩
abbrev main_call5_v0 : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_c_1 : Ref sig .tc := ⟨.hbm, 139, rfl⟩
abbrev main_call5_c_2 : Ref sig .tc := ⟨.hbm, 140, rfl⟩
abbrev main_call5_v6 : Ref sig .tc := ⟨.hbm, 141, rfl⟩
abbrev main_call5_v7 : Ref sig .tc := ⟨.hbm, 142, rfl⟩
abbrev main_call5_v8 : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_c_3 : Ref sig .tc := ⟨.hbm, 147, rfl⟩
abbrev main_call5_v12 : Ref sig .tc := ⟨.hbm, 148, rfl⟩
abbrev main_call5_v13 : Ref sig .tc := ⟨.hbm, 149, rfl⟩
abbrev main_call5_v14 : Ref sig .tc := ⟨.hbm, 150, rfl⟩
abbrev main_call5_cst : Ref sig .tc := ⟨.hbm, 151, rfl⟩
abbrev main_call5_v15 : Ref sig .tc := ⟨.hbm, 152, rfl⟩
abbrev main_v11 : Ref sig .tc := ⟨.hbm, 153, rfl⟩
abbrev main_v12 : Ref sig .tc := ⟨.hbm, 154, rfl⟩
abbrev main_v13 : Ref sig .tc := ⟨.hbm, 155, rfl⟩
abbrev main_v14 : Ref sig .tc := ⟨.hbm, 156, rfl⟩
abbrev main_v15 : Ref sig .tc := ⟨.hbm, 157, rfl⟩
abbrev main_v16 : Ref sig .tc := ⟨.hbm, 158, rfl⟩
abbrev main_v17 : Ref sig .tc := ⟨.hbm, 159, rfl⟩
abbrev main_v18 : Ref sig .tc := ⟨.hbm, 160, rfl⟩
abbrev main_v19 : Ref sig .tc := ⟨.hbm, 161, rfl⟩
abbrev main_v20 : Ref sig .tc := ⟨.hbm, 162, rfl⟩
abbrev main_v21 : Ref sig .tc := ⟨.hbm, 163, rfl⟩
abbrev main_v22 : Ref sig .tc := ⟨.hbm, 164, rfl⟩
abbrev main_v23 : Ref sig .tc := ⟨.hbm, 165, rfl⟩
abbrev main_v24 : Ref sig .tc := ⟨.hbm, 166, rfl⟩
abbrev main_v25 : Ref sig .tc := ⟨.hbm, 167, rfl⟩
abbrev main_c : Ref sig .tc := ⟨.hbm, 168, rfl⟩
abbrev main_v26 : Ref sig .tc := ⟨.hbm, 169, rfl⟩
abbrev main_v27 : Ref sig .tc := ⟨.hbm, 170, rfl⟩
abbrev main_v28 : Ref sig .tc := ⟨.hbm, 171, rfl⟩
abbrev main_v29 : Ref sig .tc := ⟨.hbm, 172, rfl⟩
abbrev main_v30 : Ref sig .tc := ⟨.hbm, 173, rfl⟩
abbrev main_v31 : Ref sig .tc := ⟨.hbm, 174, rfl⟩
abbrev main_v32 : Ref sig .tc := ⟨.hbm, 175, rfl⟩
abbrev main_v33 : Ref sig .tc := ⟨.hbm, 176, rfl⟩
abbrev main_v34 : Ref sig .tc := ⟨.hbm, 177, rfl⟩
abbrev main_v35 : Ref sig .tc := ⟨.hbm, 178, rfl⟩
abbrev main_cst_0 : Ref sig .tc := ⟨.hbm, 179, rfl⟩
abbrev main_call6_v0 : Ref sig .tc := ⟨.hbm, 180, rfl⟩
abbrev main_call6_v1 : Ref sig .tc := ⟨.hbm, 181, rfl⟩
abbrev main_call6_v2 : Ref sig .tc := ⟨.hbm, 182, rfl⟩
abbrev main_v36 : Ref sig .tc := ⟨.hbm, 183, rfl⟩
abbrev main_v37 : Ref sig .tc := ⟨.hbm, 184, rfl⟩
abbrev main_v38 : Ref sig .tc := ⟨.hbm, 185, rfl⟩
abbrev main_v39 : Ref sig .tc := ⟨.hbm, 186, rfl⟩
abbrev main_v40 : Ref sig .tc := ⟨.hbm, 187, rfl⟩
abbrev main_cst_1 : Ref sig .tc := ⟨.hbm, 188, rfl⟩
abbrev main_v41 : Ref sig .tc := ⟨.hbm, 189, rfl⟩
abbrev main_v42 : Ref sig .tc := ⟨.hbm, 190, rfl⟩
abbrev main_cst_2 : Ref sig .tc := ⟨.hbm, 191, rfl⟩
abbrev main_v43 : Ref sig .tc := ⟨.hbm, 192, rfl⟩
abbrev main_v44 : Ref sig .tc := ⟨.hbm, 193, rfl⟩
abbrev main_v45 : Ref sig .tc := ⟨.hbm, 194, rfl⟩
abbrev main_cst_3 : Ref sig .tc := ⟨.hbm, 195, rfl⟩
abbrev main_v46 : Ref sig .tc := ⟨.hbm, 196, rfl⟩
abbrev main_v47 : Ref sig .tc := ⟨.hbm, 197, rfl⟩
abbrev main_v48 : Ref sig .tc := ⟨.hbm, 198, rfl⟩
abbrev main_v49 : Ref sig .tc := ⟨.hbm, 199, rfl⟩
abbrev main_v50 : Ref sig .tc := ⟨.hbm, 200, rfl⟩
abbrev main_v51 : Ref sig .tc := ⟨.hbm, 201, rfl⟩
abbrev main_v52 : Ref sig .tc := ⟨.hbm, 202, rfl⟩
abbrev main_v53 : Ref sig .tc := ⟨.hbm, 203, rfl⟩
abbrev main_v54 : Ref sig .tc := ⟨.hbm, 204, rfl⟩
abbrev main_v55 : Ref sig .tc := ⟨.hbm, 205, rfl⟩
abbrev main_v56 : Ref sig .tc := ⟨.hbm, 206, rfl⟩
abbrev main_v57 : Ref sig .tc := ⟨.hbm, 207, rfl⟩
abbrev main_cst_4 : Ref sig .tc := ⟨.hbm, 208, rfl⟩
abbrev main_v58 : Ref sig .tc := ⟨.hbm, 209, rfl⟩
abbrev main_v59 : Ref sig .tc := ⟨.hbm, 210, rfl⟩
abbrev main_cst_5 : Ref sig .tc := ⟨.hbm, 211, rfl⟩
abbrev main_v60 : Ref sig .tc := ⟨.hbm, 212, rfl⟩
abbrev main_v61 : Ref sig .tc := ⟨.hbm, 213, rfl⟩
abbrev main_v62 : Ref sig .tc := ⟨.hbm, 214, rfl⟩
abbrev main_cst_6 : Ref sig .tc := ⟨.hbm, 215, rfl⟩
abbrev main_v63 : Ref sig .tc := ⟨.hbm, 216, rfl⟩
abbrev main_v64 : Ref sig .tc := ⟨.hbm, 217, rfl⟩
abbrev main_v65 : Ref sig .tc := ⟨.hbm, 218, rfl⟩
abbrev main_cst_7 : Ref sig .tc := ⟨.hbm, 219, rfl⟩
abbrev main_v66 : Ref sig .tc := ⟨.hbm, 220, rfl⟩
abbrev main_v67 : Ref sig .tc := ⟨.hbm, 221, rfl⟩
abbrev main_v68 : Ref sig .tc := ⟨.hbm, 222, rfl⟩
abbrev main_v69 : Ref sig .tc := ⟨.hbm, 223, rfl⟩
abbrev main_v70 : Ref sig .tc := ⟨.hbm, 224, rfl⟩
abbrev main_v71 : Ref sig .tc := ⟨.hbm, 225, rfl⟩
abbrev main_v72 : Ref sig .tc := ⟨.hbm, 226, rfl⟩
abbrev main_v73 : Ref sig .tc := ⟨.hbm, 227, rfl⟩
abbrev main_v74 : Ref sig .tc := ⟨.hbm, 228, rfl⟩
abbrev main_v75 : Ref sig .tc := ⟨.hbm, 229, rfl⟩
abbrev main_v76 : Ref sig .tc := ⟨.hbm, 230, rfl⟩
abbrev main_v77 : Ref sig .tc := ⟨.hbm, 231, rfl⟩
abbrev main_v78 : Ref sig .tc := ⟨.hbm, 232, rfl⟩
abbrev main_v79 : Ref sig .tc := ⟨.hbm, 233, rfl⟩
abbrev main_v80 : Ref sig .tc := ⟨.hbm, 234, rfl⟩
abbrev main_v81 : Ref sig .tc := ⟨.hbm, 235, rfl⟩
abbrev main_v82 : Ref sig .tc := ⟨.hbm, 236, rfl⟩
abbrev main_v83 : Ref sig .tc := ⟨.hbm, 237, rfl⟩
abbrev main_v84 : Ref sig .tc := ⟨.hbm, 238, rfl⟩
abbrev main_v85 : Ref sig .tc := ⟨.hbm, 239, rfl⟩
abbrev main_v86 : Ref sig .tc := ⟨.hbm, 240, rfl⟩
abbrev main_v87 : Ref sig .tc := ⟨.hbm, 241, rfl⟩
abbrev main_v88 : Ref sig .tc := ⟨.hbm, 242, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x32768x40x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32768x40x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x40x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32768x40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32768x40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32768x40x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.SetupBits.lean ====
/- What the run of the spatial kernel's body shares: the windows' staging memrefs, the buffers as the region finds them,
   the head table read off the launch memory and the frame's conclusion read off a frame run. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%2)) is fetched at the first point only, at any contents of the tables (its index map reads none). -/
theorem fetch0_0 (a : (pcfg0 (F := F)).Adm) : ∀ t : Fin (cfg0 a).N, ((cfg0 a).win 0).fetch t = true ↔ t.val % 1134 = 0 :=
  (fun t => Pipeline.Window.fetchOf_const cc0_transform_0 (fun _ _ => rfl) (n := 1134) (by decide) t : ∀ t : Fin grid0.N, Pipeline.Window.fetchOf grid0 false cc0_transform_0 t = true ↔ t.val % 1134 = 0)
/-- Window 1 (operand 2 (%arg5)) is fetched at the first point only, at any contents of the tables (its index map reads none). -/
theorem fetch0_1 (a : (pcfg0 (F := F)).Adm) : ∀ t : Fin (cfg0 a).N, ((cfg0 a).win 1).fetch t = true ↔ t.val % 1134 = 0 :=
  (fun t => Pipeline.Window.fetchOf_const cc0_transform_1 (fun _ _ => rfl) (n := 1134) (by decide) t : ∀ t : Fin grid0.N, Pipeline.Window.fetchOf grid0 false cc0_transform_1 t = true ↔ t.val % 1134 = 0)
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
/-- Window 9 (result 0 (%11)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 2 (by decide) (by decide) (Pipeline.Window.sep_of_coord cc0_transform_9 2 1 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__spatial (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S40 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      (Pipeline.RDat.FramePost.arr_in h c 1 rfl).trans ((hA c 1).trans (V_main_arg5 m c)),
      ((h c).2 main_arg6 (by decide : main_arg6 ∈ Pipeline.restRefs sig spec0)).trans (V_main_arg6 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S2x40 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S2x40 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1536x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1536x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1536x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x512x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x128x1536 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x128x1536 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x128x512 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1536x128 .bf16 := spec0_9.stage ((cfgM m hO).slots t 9)
abbrev hs0_9 (hO : Ok m) (t : Fin (cfgM m hO).N) : (ms0_9 m hO t).IsWhole := hstage0_9 (((cfgM m hO).slots t 9).cast nbuf0_9)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S3584x128 .fp8e4m3 := Memref.whole cc0_scratch0
abbrev scM0_1 : Memref sig .tc .vmem S128x3584 .fp8e4m3 := Memref.whole cc0_scratch1
abbrev scM0_2 : Memref sig .tc .vmem S3584x512 .f32 := Memref.whole cc0_scratch2
abbrev scM0_3 : Memref sig .tc .vmem S128x512 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.HeadsBits.lean ====
/- The table of head numbers, from the precondition: its first 27 words are between 0 and 39. From that the two side
   conditions of the run: every block a window names through the table lies inside its array (`ok_of_pre`), and the
   two scalar reads of the body at the head number lie inside theirs (`hyps_of_pre`). -/
module

public import proofs.«01_k».proof.Defs
public import proofs.«01_k».proof.Proof.Gen.Pre_heads_in_range
public import proofs.«01_k».proof.Proof.SetupBits

@[expose] public section

set_option maxRecDepth 100000

noncomputable section

namespace Cert.Kernel.Gen

open Idealize.ShloMosaic Idealize.ShloMosaic.TcCoe

variable {F : FTy → Type} [FloatOps F]

/-- The word the predicate bounds, as a number. -/
theorem word_lt (v : BitVec 32) (h0 : IntOp.cmpi .sge v 0#32 = 1#1) (h1 : IntOp.cmpi .slt v 40#32 = 1#1) : v.toNat < 40 := by
  replace h0 : BitVec.ofBool ((0#32).sle v) = 1#1 := h0
  replace h1 : BitVec.ofBool (v.slt 40#32) = 1#1 := h1
  have h0' : (0#32).sle v = true := by
    cases hc : (0#32).sle v
    · rw [hc] at h0; exact absurd h0 (by decide)
    · rfl
  have h1' : v.slt 40#32 = true := by
    cases hc : v.slt 40#32
    · rw [hc] at h1; exact absurd h1 (by decide)
    · rfl
  simp only [BitVec.sle, BitVec.slt, decide_eq_true_eq] at h0' h1'
  have e0 : (0#32 : BitVec 32).toInt = 0 := rfl
  have e40 : (40#32 : BitVec 32).toInt = 40 := rfl
  rw [e0] at h0'; rw [e40] at h1'
  have := BitVec.toInt_eq_toNat_cond v
  split at this <;> omega

/-- The table's word that a grid point reads is a head number, and the position read is one of the first 27. -/
theorem pre_word (x0 x1 x2 x3 x4 x5) (T : (⟨S40, .i32⟩ : BufTy).Contents (Elt F))
    (h : Cert.Pre_heads_in_range.fn (F := F) x0 x1 x2 x3 x4 x5 T = fun _ => 1#1) (J : S40.Idx) (hJ : (J 0).val < 27) :
    (T J).toNat < 40 := by
  have andi_one (a b : BitVec 1) : IntOp.andi a b = 1#1 ↔ a = 1#1 ∧ b = 1#1 := by revert a b; decide
  have hk := congrFun h (fun a => ⟨(J 0).val, by obtain rfl : a = 0 := Subsingleton.elim _ _; exact hJ⟩)
  simp only [Cert.Pre_heads_in_range.fn, constantI, broadcastInDim, cmpi, andi, andi_one, extractStridedSlice] at hk
  have at_w (P : BitVec 32 → Prop) (I : S40.Idx) (hP : P (T I)) (hI : (I 0).val = (J 0).val) : P (T J) := by
    have e : I = J := by
      funext a
      obtain rfl : a = 0 := Subsingleton.elim _ _
      exact Fin.ext hI
    exact e ▸ hP
  exact word_lt _ (at_w (fun v => IntOp.cmpi .sge v 0#32 = 1#1) _ hk.1 (Nat.zero_add _))
    (at_w (fun v => IntOp.cmpi .slt v 40#32 = 1#1) _ hk.2 (Nat.zero_add _))

/-- The head number grid point `i` reads from the table. -/
abbrev headAt (T : (⟨S40, .i32⟩ : BufTy).Contents (Elt F)) (i : grid0.Coords) : BitVec 32 :=
  T ((Rect.unit (s := S40) (k0_off1 i) S1.size (k0_off1_inb i)).emb (Shape.Idx.first (numel1_S1.symm ▸ Nat.one_pos)))

theorem off1_val (i : grid0.Coords) : k0_off1 i 0 = (i 1).val := by
  have hi : (i 1).val < 27 := (i 1).isLt
  show (Scalar.indexCast (BitVec.ofNat 32 (i 1).val)).toNat = (i 1).val
  show (BitVec.ofNat 32 (i 1).val).toNat = (i 1).val
  rw [BitVec.toNat_ofNat]; exact Nat.mod_eq_of_lt (by omega)

/-- The head number of every grid point is below 40. -/
theorem headAt_lt (x0 x1 x2 x3 x4 x5) (T : (⟨S40, .i32⟩ : BufTy).Contents (Elt F))
    (h : Cert.Pre_heads_in_range.fn (F := F) x0 x1 x2 x3 x4 x5 T = fun _ => 1#1) (i : grid0.Coords) : (headAt T i).toNat < 40 := by
  refine pre_word _ _ _ _ _ _ T h _ ?_
  have hi : (i 1).val < 27 := (i 1).isLt
  have := off1_val i
  show k0_off1 i 0 + _ < 27
  have h0 : ((Shape.Idx.first (numel1_S1.symm ▸ Nat.one_pos : 0 < S1.numel) : S1.Idx) 0).val < 1 := Fin.isLt _
  first | omega | (simp; omega)

/-- The window blocks are inside their arrays once every head number read is below 40. -/
theorem ok0_of_lt (pf : pre0.Contents (Elt F)) (h : ∀ i : grid0.Coords, (headAt (pf 0) i).toNat < 40) : ok0 pf := by
  have w32 (n : Nat) (hn : n < 40) : (BitVec.ofNat 32 n).toNat = n := by
    rw [BitVec.toNat_ofNat]; exact Nat.mod_eq_of_lt (by omega)
  have e0 (i : grid0.Coords) : ((BitVec.ofNat 32 (i 0).val).toNat + 1) * 1 ≤ 2 := by
    have h0 : (i 0).val < 2 := (i 0).isLt
    rw [w32 _ (by omega)]; omega
  have e1 (i : grid0.Coords) : ((headAt (pf 0) i).toNat + 1) * 1 ≤ 40 := by have := h i; omega
  have e2 (i : grid0.Coords) : ((BitVec.ofNat 32 (i 2).val).toNat + 1) * 1536 ≤ 32256 := by
    have h2 : (i 2).val < 21 := (i 2).isLt
    rw [w32 _ (by omega)]; omega
  refine ⟨?_, ?_, ?_, ?_, ?_, ?_, ?_⟩ <;> intro i <;>
    refine ⟨?_, .inr (Affine.block_words_dvd (of_decide_eq_true rfl) (by decide))⟩
  · intro a; fin_cases a
    · exact e0 i
    · exact e1 i
    · exact e2 i
    · show ((BitVec.ofNat 32 0).toNat + 1) * 128 ≤ 128; exact of_decide_eq_true rfl
  · intro a; fin_cases a
    · exact e0 i
    · exact e1 i
    · exact e2 i
    · show ((BitVec.ofNat 32 0).toNat + 1) * 128 ≤ 128; exact of_decide_eq_true rfl
  · intro a; fin_cases a
    · exact e0 i
    · exact e1 i
    · show ((BitVec.ofNat 32 0).toNat + 1) * 1536 ≤ 1536; exact of_decide_eq_true rfl
    · show ((BitVec.ofNat 32 0).toNat + 1) * 128 ≤ 128; exact of_decide_eq_true rfl
  · intro a; fin_cases a
    · exact e0 i
    · exact e1 i
    · show ((BitVec.ofNat 32 63).toNat + 1) * 512 ≤ 32768; exact of_decide_eq_true rfl
    · show ((BitVec.ofNat 32 0).toNat + 1) * 128 ≤ 128; exact of_decide_eq_true rfl
  · intro a; fin_cases a
    · exact e0 i
    · exact e1 i
    · show ((BitVec.ofNat 32 0).toNat + 1) * 128 ≤ 128; exact of_decide_eq_true rfl
    · exact e2 i
  · intro a; fin_cases a
    · exact e0 i
    · exact e1 i
    · show ((BitVec.ofNat 32 0).toNat + 1) * 128 ≤ 128; exact of_decide_eq_true rfl
    · show ((BitVec.ofNat 32 0).toNat + 1) * 1536 ≤ 1536; exact of_decide_eq_true rfl
  · intro a; fin_cases a
    · exact e0 i
    · exact e1 i
    · show ((BitVec.ofNat 32 0).toNat + 1) * 128 ≤ 128; exact of_decide_eq_true rfl
    · show ((BitVec.ofNat 32 63).toNat + 1) * 512 ≤ 32768; exact of_decide_eq_true rfl

/-- The body's two scalar reads at a head number below 40 are inside their arrays. -/
theorem chk1_of_lt (i : grid0.Coords) (v : BitVec 32) (h : v.toNat < 40) : k0_chk1 i v := by
  intro a
  have h0 : (i 0).val < 2 := (i 0).isLt
  fin_cases a
  · show (Scalar.indexCast (BitVec.ofNat 32 (i 0).val)).toNat + 1 ≤ 2
    have : (Scalar.indexCast (BitVec.ofNat 32 (i 0).val)).toNat = (i 0).val := by
      show (BitVec.ofNat 32 (i 0).val).toNat = (i 0).val
      rw [BitVec.toNat_ofNat]; exact Nat.mod_eq_of_lt (by omega)
    omega
  · show (Scalar.indexCast v).toNat + 1 ≤ 40
    have : (Scalar.indexCast v).toNat = v.toNat := by
      rfl
    omega

variable (m : (ℓ : Loc nD τ sig) → Buf (Elt F) ℓ)

/-- The table at region entry is the argument. -/
theorem tbl_eq : (tbl m 0 : (⟨S40, .i32⟩ : BufTy).Contents (Elt F)) = m (((0 : Dev nD) : Thread nD τ).loc main_arg6) := V_main_arg6 m 0

theorem ok_of_head (h : ∀ i : grid0.Coords, (headAt (F := F) (m (((0 : Dev nD) : Thread nD τ).loc main_arg6)) i).toNat < 40) : Ok m :=
  ok0_of_lt _ fun i => by have := h i; rwa [← tbl_eq m] at this

theorem hyps_of_head (h : ∀ i : grid0.Coords, (headAt (F := F) (m (((0 : Dev nD) : Thread nD τ).loc main_arg6)) i).toNat < 40) (hO : Ok m) :
    Hyps m hO := fun c t => by
  refine chk1_of_lt _ _ ?_
  have := h (grid0.coords t)
  rw [← tbl_eq m] at this
  exact this

end Cert.Kernel.Gen

namespace Cert.Kernel

open Idealize.ShloMosaic Idealize.ShloMosaic.TcCoe

/-- Under the certificate's precondition every head number read is below 40. -/
theorem heads_of_pre (m : (ℓ : Loc nD τ sig) → Buf (Elt Bits) ℓ) (h : Cert.Pre_Kernel m) (i : grid0.Coords) :
    (Gen.headAt (F := Bits) (m (((0 : Dev nD) : Thread nD τ).loc main_arg6)) i).toNat < 40 :=
  Gen.headAt_lt _ _ _ _ _ _ _ (h 0) i

theorem ok_of_pre (m : (ℓ : Loc nD τ sig) → Buf (Elt Bits) ℓ) (h : Cert.Pre_Kernel m) : Gen.Ok m :=
  Gen.ok_of_head m (heads_of_pre m h)

theorem hyps_of_pre (m : (ℓ : Loc nD τ sig) → Buf (Elt Bits) ℓ) (h : Cert.Pre_Kernel m) : Gen.Hyps m (ok_of_pre m h) :=
  Gen.hyps_of_head m (heads_of_pre m h) _

end Cert.Kernel

end
-- ==== Proof.SetupIdeal.lean ====
/- What the run of the spatial kernel's body shares: the windows' staging memrefs, the buffers as the region finds them,
   the head table read off the launch memory and the frame's conclusion read off a frame run. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%2)) is fetched at the first point only, at any contents of the tables (its index map reads none). -/
theorem fetch0_0 (a : (pcfg0 (F := F)).Adm) : ∀ t : Fin (cfg0 a).N, ((cfg0 a).win 0).fetch t = true ↔ t.val % 1134 = 0 :=
  (fun t => Pipeline.Window.fetchOf_const cc0_transform_0 (fun _ _ => rfl) (n := 1134) (by decide) t : ∀ t : Fin grid0.N, Pipeline.Window.fetchOf grid0 false cc0_transform_0 t = true ↔ t.val % 1134 = 0)
/-- Window 1 (operand 2 (%arg5)) is fetched at the first point only, at any contents of the tables (its index map reads none). -/
theorem fetch0_1 (a : (pcfg0 (F := F)).Adm) : ∀ t : Fin (cfg0 a).N, ((cfg0 a).win 1).fetch t = true ↔ t.val % 1134 = 0 :=
  (fun t => Pipeline.Window.fetchOf_const cc0_transform_1 (fun _ _ => rfl) (n := 1134) (by decide) t : ∀ t : Fin grid0.N, Pipeline.Window.fetchOf grid0 false cc0_transform_1 t = true ↔ t.val % 1134 = 0)
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
/-- Window 9 (result 0 (%11)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 2 (by decide) (by decide) (Pipeline.Window.sep_of_coord cc0_transform_9 2 1 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__spatial (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S40 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 1).trans (((dats 0 c).arrAt_in 1 rfl _).trans ((hA c 1).trans (V_main_arg5 m c))),
      ((h c).2 main_arg6 (by decide : main_arg6 ∈ Pipeline.restRefs sig spec0)).trans (V_main_arg6 m c)⟩) h

/-! ## The kernel body on any staging memrefs: a subtype the run finds -/

/-- One staging buffer of output window 9, through which its contents are stated (`View.read_writes_of_cover`: the
    choice does not matter). -/
abbrev VO0_9 : View sig .tc .vmem S1x1536x128 .bf16 := (Memref.whole cc0_stg9_0 : Memref sig .tc .vmem S1x1536x128 .bf16).view
/-- Each window's current staging memref at point `t`, spelled as the pipeline passes it (`bodyAt0`), and its wholeness. -/
abbrev ms0_0 (hO : Ok m) (t : Fin (cfgM m hO).N) : Memref sig .tc .smem S2x40 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .smem S2x40 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1536x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1536x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1536x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x512x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x128x1536 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x128x1536 .fp8e4m3 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x128x512 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1536x128 .bf16 := spec0_9.stage ((cfgM m hO).slots t 9)
abbrev hs0_9 (hO : Ok m) (t : Fin (cfgM m hO).N) : (ms0_9 m hO t).IsWhole := hstage0_9 (((cfgM m hO).slots t 9).cast nbuf0_9)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_0.view.readAt (Elt F) (Rect.unit (s := S40) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S3584x128 .fp8e4m3 := Memref.whole cc0_scratch0
abbrev scM0_1 : Memref sig .tc .vmem S128x3584 .fp8e4m3 := Memref.whole cc0_scratch1
abbrev scM0_2 : Memref sig .tc .vmem S3584x512 .f32 := Memref.whole cc0_scratch2
abbrev scM0_3 : Memref sig .tc .vmem S128x512 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.HeadsIdeal.lean ====
/- The table of head numbers, from the precondition: its first 27 words are between 0 and 39. From that the two side
   conditions of the run: every block a window names through the table lies inside its array (`ok_of_pre`), and the
   two scalar reads of the body at the head number lie inside theirs (`hyps_of_pre`). -/
module

public import proofs.«01_k».proof.Defs
public import proofs.«01_k».proof.Proof.Gen.Pre_heads_in_range
public import proofs.«01_k».proof.Proof.SetupIdeal

@[expose] public section

set_option maxRecDepth 100000

noncomputable section

namespace Cert.KernelIdeal.Gen

open Idealize.ShloMosaic Idealize.ShloMosaic.TcCoe

variable {F : FTy → Type} [FloatOps F] [Named F]

/-- The word the predicate bounds, as a number. -/
theorem word_lt (v : BitVec 32) (h0 : IntOp.cmpi .sge v 0#32 = 1#1) (h1 : IntOp.cmpi .slt v 40#32 = 1#1) : v.toNat < 40 := by
  replace h0 : BitVec.ofBool ((0#32).sle v) = 1#1 := h0
  replace h1 : BitVec.ofBool (v.slt 40#32) = 1#1 := h1
  have h0' : (0#32).sle v = true := by
    cases hc : (0#32).sle v
    · rw [hc] at h0; exact absurd h0 (by decide)
    · rfl
  have h1' : v.slt 40#32 = true := by
    cases hc : v.slt 40#32
    · rw [hc] at h1; exact absurd h1 (by decide)
    · rfl
  simp only [BitVec.sle, BitVec.slt, decide_eq_true_eq] at h0' h1'
  have e0 : (0#32 : BitVec 32).toInt = 0 := rfl
  have e40 : (40#32 : BitVec 32).toInt = 40 := rfl
  rw [e0] at h0'; rw [e40] at h1'
  have := BitVec.toInt_eq_toNat_cond v
  split at this <;> omega

/-- The table's word that a grid point reads is a head number, and the position read is one of the first 27. -/
theorem pre_word (x0 x1 x2 x3 x4 x5) (T : (⟨S40, .i32⟩ : BufTy).Contents (Elt F))
    (h : Cert.Pre_heads_in_range.fn (F := F) x0 x1 x2 x3 x4 x5 T = fun _ => 1#1) (J : S40.Idx) (hJ : (J 0).val < 27) :
    (T J).toNat < 40 := by
  have andi_one (a b : BitVec 1) : IntOp.andi a b = 1#1 ↔ a = 1#1 ∧ b = 1#1 := by revert a b; decide
  have hk := congrFun h (fun a => ⟨(J 0).val, by obtain rfl : a = 0 := Subsingleton.elim _ _; exact hJ⟩)
  simp only [Cert.Pre_heads_in_range.fn, constantI, broadcastInDim, cmpi, andi, andi_one, extractStridedSlice] at hk
  have at_w (P : BitVec 32 → Prop) (I : S40.Idx) (hP : P (T I)) (hI : (I 0).val = (J 0).val) : P (T J) := by
    have e : I = J := by
      funext a
      obtain rfl : a = 0 := Subsingleton.elim _ _
      exact Fin.ext hI
    exact e ▸ hP
  exact word_lt _ (at_w (fun v => IntOp.cmpi .sge v 0#32 = 1#1) _ hk.1 (Nat.zero_add _))
    (at_w (fun v => IntOp.cmpi .slt v 40#32 = 1#1) _ hk.2 (Nat.zero_add _))

/-- The head number grid point `i` reads from the table. -/
abbrev headAt (T : (⟨S40, .i32⟩ : BufTy).Contents (Elt F)) (i : grid0.Coords) : BitVec 32 :=
  T ((Rect.unit (s := S40) (k0_off1 i) S1.size (k0_off1_inb i)).emb (Shape.Idx.first (numel1_S1.symm ▸ Nat.one_pos)))

theorem off1_val (i : grid0.Coords) : k0_off1 i 0 = (i 1).val := by
  have hi : (i 1).val < 27 := (i 1).isLt
  show (Scalar.indexCast (BitVec.ofNat 32 (i 1).val)).toNat = (i 1).val
  show (BitVec.ofNat 32 (i 1).val).toNat = (i 1).val
  rw [BitVec.toNat_ofNat]; exact Nat.mod_eq_of_lt (by omega)

/-- The head number of every grid point is below 40. -/
theorem headAt_lt (x0 x1 x2 x3 x4 x5) (T : (⟨S40, .i32⟩ : BufTy).Contents (Elt F))
    (h : Cert.Pre_heads_in_range.fn (F := F) x0 x1 x2 x3 x4 x5 T = fun _ => 1#1) (i : grid0.Coords) : (headAt T i).toNat < 40 := by
  refine pre_word _ _ _ _ _ _ T h _ ?_
  have hi : (i 1).val < 27 := (i 1).isLt
  have := off1_val i
  show k0_off1 i 0 + _ < 27
  have h0 : ((Shape.Idx.first (numel1_S1.symm ▸ Nat.one_pos : 0 < S1.numel) : S1.Idx) 0).val < 1 := Fin.isLt _
  first | omega | (simp; omega)

/-- The window blocks are inside their arrays once every head number read is below 40. -/
theorem ok0_of_lt (pf : pre0.Contents (Elt F)) (h : ∀ i : grid0.Coords, (headAt (pf 0) i).toNat < 40) : ok0 pf := by
  have w32 (n : Nat) (hn : n < 40) : (BitVec.ofNat 32 n).toNat = n := by
    rw [BitVec.toNat_ofNat]; exact Nat.mod_eq_of_lt (by omega)
  have e0 (i : grid0.Coords) : ((BitVec.ofNat 32 (i 0).val).toNat + 1) * 1 ≤ 2 := by
    have h0 : (i 0).val < 2 := (i 0).isLt
    rw [w32 _ (by omega)]; omega
  have e1 (i : grid0.Coords) : ((headAt (pf 0) i).toNat + 1) * 1 ≤ 40 := by have := h i; omega
  have e2 (i : grid0.Coords) : ((BitVec.ofNat 32 (i 2).val).toNat + 1) * 1536 ≤ 32256 := by
    have h2 : (i 2).val < 21 := (i 2).isLt
    rw [w32 _ (by omega)]; omega
  refine ⟨?_, ?_, ?_, ?_, ?_, ?_, ?_⟩ <;> intro i <;>
    refine ⟨?_, .inr (Affine.block_words_dvd (of_decide_eq_true rfl) (by decide))⟩
  · intro a; fin_cases a
    · exact e0 i
    · exact e1 i
    · exact e2 i
    · show ((BitVec.ofNat 32 0).toNat + 1) * 128 ≤ 128; exact of_decide_eq_true rfl
  · intro a; fin_cases a
    · exact e0 i
    · exact e1 i
    · exact e2 i
    · show ((BitVec.ofNat 32 0).toNat + 1) * 128 ≤ 128; exact of_decide_eq_true rfl
  · intro a; fin_cases a
    · exact e0 i
    · exact e1 i
    · show ((BitVec.ofNat 32 0).toNat + 1) * 1536 ≤ 1536; exact of_decide_eq_true rfl
    · show ((BitVec.ofNat 32 0).toNat + 1) * 128 ≤ 128; exact of_decide_eq_true rfl
  · intro a; fin_cases a
    · exact e0 i
    · exact e1 i
    · show ((BitVec.ofNat 32 63).toNat + 1) * 512 ≤ 32768; exact of_decide_eq_true rfl
    · show ((BitVec.ofNat 32 0).toNat + 1) * 128 ≤ 128; exact of_decide_eq_true rfl
  · intro a; fin_cases a
    · exact e0 i
    · exact e1 i
    · show ((BitVec.ofNat 32 0).toNat + 1) * 128 ≤ 128; exact of_decide_eq_true rfl
    · exact e2 i
  · intro a; fin_cases a
    · exact e0 i
    · exact e1 i
    · show ((BitVec.ofNat 32 0).toNat + 1) * 128 ≤ 128; exact of_decide_eq_true rfl
    · show ((BitVec.ofNat 32 0).toNat + 1) * 1536 ≤ 1536; exact of_decide_eq_true rfl
  · intro a; fin_cases a
    · exact e0 i
    · exact e1 i
    · show ((BitVec.ofNat 32 0).toNat + 1) * 128 ≤ 128; exact of_decide_eq_true rfl
    · show ((BitVec.ofNat 32 63).toNat + 1) * 512 ≤ 32768; exact of_decide_eq_true rfl

/-- The body's two scalar reads at a head number below 40 are inside their arrays. -/
theorem chk1_of_lt (i : grid0.Coords) (v : BitVec 32) (h : v.toNat < 40) : k0_chk1 i v := by
  intro a
  have h0 : (i 0).val < 2 := (i 0).isLt
  fin_cases a
  · show (Scalar.indexCast (BitVec.ofNat 32 (i 0).val)).toNat + 1 ≤ 2
    have : (Scalar.indexCast (BitVec.ofNat 32 (i 0).val)).toNat = (i 0).val := by
      show (BitVec.ofNat 32 (i 0).val).toNat = (i 0).val
      rw [BitVec.toNat_ofNat]; exact Nat.mod_eq_of_lt (by omega)
    omega
  · show (Scalar.indexCast v).toNat + 1 ≤ 40
    have : (Scalar.indexCast v).toNat = v.toNat := by
      rfl
    omega

variable (m : (ℓ : Loc nD τ sig) → Buf (Elt F) ℓ)

/-- The table at region entry is the argument. -/
theorem tbl_eq : (tbl m 0 : (⟨S40, .i32⟩ : BufTy).Contents (Elt F)) = m (((0 : Dev nD) : Thread nD τ).loc main_arg6) := V_main_arg6 m 0

theorem ok_of_head (h : ∀ i : grid0.Coords, (headAt (F := F) (m (((0 : Dev nD) : Thread nD τ).loc main_arg6)) i).toNat < 40) : Ok m :=
  ok0_of_lt _ fun i => by have := h i; rwa [← tbl_eq m] at this

theorem hyps_of_head (h : ∀ i : grid0.Coords, (headAt (F := F) (m (((0 : Dev nD) : Thread nD τ).loc main_arg6)) i).toNat < 40) (hO : Ok m) :
    Hyps m hO := fun c t => by
  refine chk1_of_lt _ _ ?_
  have := h (grid0.coords t)
  rw [← tbl_eq m] at this
  exact this

end Cert.KernelIdeal.Gen

namespace Cert.KernelIdeal

open Idealize.ShloMosaic Idealize.ShloMosaic.TcCoe

/-- Under the certificate's precondition every head number read is below 40. -/
theorem heads_of_pre (m : (ℓ : Loc nD τ sig) → Buf (Elt Ideal) ℓ) (h : Cert.Pre_KernelIdeal m) (i : grid0.Coords) :
    (Gen.headAt (F := Ideal) (m (((0 : Dev nD) : Thread nD τ).loc main_arg6)) i).toNat < 40 :=
  Gen.headAt_lt _ _ _ _ _ _ _ (h 0) i

theorem ok_of_pre (m : (ℓ : Loc nD τ sig) → Buf (Elt Ideal) ℓ) (h : Cert.Pre_KernelIdeal m) : Gen.Ok m :=
  Gen.ok_of_head m (heads_of_pre m h)

theorem hyps_of_pre (m : (ℓ : Loc nD τ sig) → Buf (Elt Ideal) ℓ) (h : Cert.Pre_KernelIdeal m) : Gen.Hyps m (ok_of_pre m h) :=
  Gen.hyps_of_head m (heads_of_pre m h) _

end Cert.KernelIdeal

end
-- ==== Proof.RunBits.lean ====
/- One run of the spatial kernel's body, by symbolic execution; the pieces it leaves in the output are found by the run. -/
module

public import proofs.«01_k».proof.Proof.SetupBits

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1376000 in
/-- The body's triple: on whole staging memrefs — the inputs' at their contents,
    the FORGOTTEN outputs' (9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole)
    (x0 : Vec F S2x40 .f32) (x1 : Vec F S2x40 .f32) (x2 : Vec F S1x1x1536x128 .fp8e4m3) (x3 : Vec F S1x1x1536x128 .fp8e4m3) (x4 : Vec F S1x1x1536x128 .fp8e4m3) (x5 : Vec F S1x1x512x128 .fp8e4m3) (x6 : Vec F S1x1x128x1536 .fp8e4m3) (x7 : Vec F S1x1x128x1536 .fp8e4m3) (x8 : Vec F S1x1x128x512 .fp8e4m3) (xt0 : TbBuf0 (F := F) c tbM0_0) (k0_hw1 : k0_chk1 i (tbM0_0.view.readAt (Elt F) (Rect.unit (s := S40) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := F)) Variants.none c none) E (cc0__spatial i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0__spatial_eq_skeleton]; unfold cc0__spatial_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec (disch := first | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.FrameBits.lean ====
/- The frame of the spatial kernel as it is compiled: it ends, without a fault, with its arguments unchanged. -/
module

public import proofs.«01_k».proof.Proof.RunBits
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9): nothing reads what the kernel leaves in them, so nothing
    of it is named (Lib/Pipeline/Dat.lean `Dat.toRForget`). -/
def forgets0 : Fin 10 → Bool := fun w => w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ (∃ d, owns (c : Thread nD τ) (ms0_9 m hO t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8]
  rw [show (dats m hO hH 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (Hyps.c0 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, H9, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 9) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.Kernel.Gen

end
-- ==== Proof.RunIdeal.lean ====
/- One run of the spatial kernel's body, by symbolic execution; the pieces it leaves in the output are found by the run. -/
module

public import proofs.«01_k».proof.Proof.SetupIdeal

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1376000 in
/-- One run of the body. What its stores leave in the output's staging memref is a list of pieces, last first, WITH the
    proof that the body runs to it: on whole staging memrefs, the inputs' at their contents, the output's at anything, the
    key, value and accumulator scratch at anything, and the score scratch at `fs2`, which the pieces may mention. -/
noncomputable def kernelRun0_A (c : Dev nD) (i : grid0.Coords) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole)
    (x0 : Vec F S2x40 .f32) (x1 : Vec F S2x40 .f32) (x2 : Vec F S1x1x1536x128 .fp8e4m3) (x3 : Vec F S1x1x1536x128 .fp8e4m3) (x4 : Vec F S1x1x1536x128 .fp8e4m3) (x5 : Vec F S1x1x512x128 .fp8e4m3) (x6 : Vec F S1x1x128x1536 .fp8e4m3) (x7 : Vec F S1x1x128x1536 .fp8e4m3) (x8 : Vec F S1x1x128x512 .fp8e4m3) (xt0 : TbBuf0 (F := F) c tbM0_0) (k0_hw1 : k0_chk1 i (tbM0_0.view.readAt (Elt F) (Rect.unit (s := S40) (k0_off1 i) S1.size (k0_off1_inb i)).toLoadRect xt0 (Shape.Idx.first (numel1_S1.symm ▸ Nat.one_pos)))) :
    { L9 : BufTy.Contents (Elt F) arg16.view.ty → List (View.Piece (Elt F) S1x1536x128 .bf16) //
      ∀ (fs2 : BufTy.Contents (Elt F) arg16.view.ty) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (arg16.view.loc (c : Thread nD τ) ↦[arg16.view.set]{fullShare} fs2) ∗ (∃ d, owns (c : Thread nD τ) arg17 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ f, arg13.view.loc (c : Thread nD τ) ↦[arg13.view.set]{fullShare} arg13.view.writes (Elt F) f (L9 fs2)) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := F)) Variants.none c none) E (cc0__spatial i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun fs2 E K => ?run⟩
  case run =>
    simp only [cc0__spatial_eq_skeleton]; unfold cc0__spatial_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, HS2, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec (disch := first | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.KernelIdeal.Gen

end
-- ==== Proof.Core.lean ====
module
public import proofs.«01_k».proof.Proof.Gen.KernelIdeal.Skeleton
public import Idealize.ShloMosaic.Lib.Pipeline.ValueKit
public import Idealize.ShloMosaic.Lib.WritesUnit
@[expose] public section
set_option maxRecDepth 16384
noncomputable section
/-! What each payload of the kernel computes at one index, over the extended reals. -/
namespace Cert.KernelIdeal.Value
open Cert.KernelIdeal Cert.KernelIdeal.Gen
open Idealize.ShloMosaic Idealize.ShloMosaic.TcCoe
open Idealize.SL.Sem

theorem ofBits_bot : Ideal.ofBits FTy.f32 4286578688#32 = ⊥ := by
  simp [Ideal.ofBits, Ideal.ieee]
/-- The score store of a chunk: key `r` against query `c`. -/
theorem pay19_at (c2 : EReal) (q : Vec Ideal S1x1x512x128 .fp8e4m3) (k : Vec Ideal S512x128 .fp8e4m3) (r c : Fin 512) :
    k0_pay19 (F := Ideal) c2 q k (ix2 r c) = (∑ d : Fin 128, k (ix2 r d) * q (ix4 0 0 c d)) * c2 := by
  pointwise [k0_pay19, k0_pay18, k0_pay16]
/-- The running maximum after a chunk. -/
theorem pay20_at (c2 : EReal) (q : Vec Ideal S1x1x512x128 .fp8e4m3) (a : Vec Ideal S1x512 .f32) (k : Vec Ideal S512x128 .fp8e4m3) (c : Fin 512) :
    k0_pay20 (F := Ideal) c2 q a k (ix2 0 c) = max (a (ix2 0 c)) (Finset.univ.fold max ⊥ (fun r : Fin 512 => (∑ d : Fin 128, k (ix2 r d) * q (ix4 0 0 c d)) * c2)) := by
  pointwise [k0_pay20, k0_pay18, k0_pay16]
  rw [ofBits_bot]
/-- The accumulator after a chunk. -/
theorem pay27_at (m : Vec Ideal S1x512 .f32) (s : Vec Ideal S512x512 .f32) (a : Vec Ideal S128x512 .f32) (v : Vec Ideal S128x512 .fp8e4m3) (d : Fin 128) (c : Fin 512) :
    k0_pay27 (F := Ideal) m s a v (ix2 d c) = a (ix2 d c) + ∑ r : Fin 512, v (ix2 d r) * Ideal.exp2 (s (ix2 r c) - m (ix2 0 c)) := by
  pointwise [k0_pay27, k0_pay26]
  rfl
/-- The running denominator after a chunk. -/
theorem pay28_at (m : Vec Ideal S1x512 .f32) (l : Vec Ideal S1x512 .f32) (s : Vec Ideal S512x512 .f32) (c : Fin 512) :
    k0_pay28 (F := Ideal) m l s (ix2 0 c) = l (ix2 0 c) + ∑ r : Fin 512, Ideal.exp2 (s (ix2 r c) - m (ix2 0 c)) := by
  pointwise [k0_pay28, k0_pay26]
  rfl
/-- The block stored to the result. -/
theorem pay7_at (vs : EReal) (l : Vec Ideal S1x512 .f32) (a : Vec Ideal S128x512 .f32) (c : Fin 512) (d : Fin 128) :
    k0_pay7 (F := Ideal) vs l a (ix3 0 c d) = a (ix2 d c) * Ideal.div vs (l (ix2 0 c)) := by
  pointwise [k0_pay7]
/-- The running maximum starts below everything. -/
theorem pay17_at (c : Fin 512) : k0_pay17 (F := Ideal) (ix2 0 c) = (⊥ : EReal) := by
  pointwise [k0_pay17]
  exact IdealRules.named_const.ideal_named_scalar _ _ _ _ rfl
theorem pay24_at (d : Fin 128) (c : Fin 512) : k0_pay24 (F := Ideal) (ix2 d c) = (0 : EReal) := by
  pointwise [k0_pay24]
theorem pay25_at (c : Fin 512) : k0_pay25 (F := Ideal) (ix2 0 c) = (0 : EReal) := by
  pointwise [k0_pay25]
/-- The score scale with the change of base inside. -/
theorem pay8_eq (x : EReal) : k0_pay8 (F := Ideal) x = x * (((Real.log 2)⁻¹ : ℝ) : EReal) := by
  unfold k0_pay8
  exact congrArg (x * ·) (IdealRules.named_const.ideal_named_scalar _ _ _ _ rfl)
theorem pay9_at (x : Vec Ideal S1x1x512x128 .fp8e4m3) (r : Fin 512) (d : Fin 128) : k0_pay9 (F := Ideal) x (ix2 r d) = x (ix4 0 0 r d) := by
  pointwise [k0_pay9]
theorem pay10_at (x : Vec Ideal S1x1x1536x128 .fp8e4m3) (r : Fin 1536) (d : Fin 128) : k0_pay10 (F := Ideal) x (ix2 r d) = x (ix4 0 0 r d) := by
  pointwise [k0_pay10]
theorem pay11_at (x : Vec Ideal S1x1x1536x128 .fp8e4m3) (r : Fin 1536) (d : Fin 128) : k0_pay11 (F := Ideal) x (ix2 r d) = x (ix4 0 0 r d) := by
  pointwise [k0_pay11]
end Cert.KernelIdeal.Value
-- ==== Proof.Recur.lean ====
module
public import proofs.«01_k».proof.Proof.Core
@[expose] public section
set_option maxRecDepth 16384
noncomputable section
/-! The two passes of one query block as recurrences over key chunks, and what they hold after `k` chunks. -/
namespace Cert.KernelIdeal.Value
open Cert.KernelIdeal Cert.KernelIdeal.Gen
open Idealize.ShloMosaic Idealize.ShloMosaic.TcCoe
open Idealize.SL.Sem

/-- Score of key `κ` against query `c`, scaled. -/
def scoreOf (c2 : EReal) (K : ℕ → Fin 128 → EReal) (Q : Fin 512 → Fin 128 → EReal) (κ : ℕ) (c : Fin 512) : EReal :=
  (∑ d : Fin 128, K κ d * Q c d) * c2
/-- Largest score over the first `N` keys. -/
def maxOf (N : ℕ) (s : ℕ → Fin 512 → EReal) (c : Fin 512) : EReal := (Finset.range N).sup fun κ => s κ c
/-- Weight of key `κ` for query `c`. -/
def eOf (s : ℕ → Fin 512 → EReal) (m : Fin 512 → EReal) (κ : ℕ) (c : Fin 512) : EReal := Ideal.exp2 (s κ c - m c)
/-- Sum of the weights. -/
def lOf (N : ℕ) (e : ℕ → Fin 512 → EReal) (c : Fin 512) : EReal := ∑ κ ∈ Finset.range N, e κ c
/-- Weighted sum of the values. -/
def accOf (N : ℕ) (V : Fin 128 → ℕ → EReal) (e : ℕ → Fin 512 → EReal) (d : Fin 128) (c : Fin 512) : EReal :=
  ∑ κ ∈ Finset.range N, V d κ * e κ c

theorem sum_chunk (f : ℕ → EReal) (k : ℕ) :
    ∑ κ ∈ Finset.range (512 * (k + 1)), f κ = ∑ κ ∈ Finset.range (512 * k), f κ + ∑ r : Fin 512, f (512 * k + r.val) := by
  rw [show 512 * (k + 1) = 512 * k + 512 by ring, Finset.sum_range_add, Finset.sum_range (n := 512)]

theorem sup_chunk (f : ℕ → EReal) (k : ℕ) :
    (Finset.range (512 * (k + 1))).sup f
      = max ((Finset.range (512 * k)).sup f) (Finset.univ.fold max ⊥ fun r : Fin 512 => f (512 * k + r.val)) := by
  have h : Finset.range (512 * (k + 1)) = Finset.range (512 * k) ∪ (Finset.univ : Finset (Fin 512)).image (fun r => 512 * k + r.val) := by
    ext x
    simp only [Finset.mem_range, Finset.mem_union, Finset.mem_image, Finset.mem_univ, true_and]
    constructor
    · intro hx
      by_cases h : x < 512 * k
      · exact Or.inl h
      · exact Or.inr ⟨⟨x - 512 * k, by omega⟩, by show 512 * k + (x - 512 * k) = x; omega⟩
    · rintro (h | ⟨r, rfl⟩)
      · omega
      · have := r.isLt; omega
  rw [h, Finset.sup_union, Finset.sup_image]
  rfl

section
variable {sig' : RefSig} {κ' : Kind} {sp' : Space}

/-- What the first pass holds after `k` chunks: the running maximum, and the scores it has stored. -/
theorem score_inv (v : View sig' κ' sp' S3584x512 .f32) (n : ℕ) (c2 : EReal) (q : Vec Ideal S1x1x512x128 .fp8e4m3)
    (K : ℕ → Fin 128 → EReal) (Q : Fin 512 → Fin 128 → EReal) (hQ : ∀ c d, q (ix4 0 0 c d) = Q c d)
    (st : ℕ → FVec Ideal S1x512 .f32 × List (View.Piece (Elt Ideal) S3584x512 .f32))
    (h0 : st 0 = (k0_pay17, []))
    (hs : ∀ k < n, ∃ (kv : Vec Ideal S512x128 .fp8e4m3) (off : Fin 2 → ℕ) (inb : ∀ a, off a + S512x512.size a ≤ S3584x512.size a),
      off = ![512 * k, 0] ∧ (∀ (r : Fin 512) (d : Fin 128), kv (ix2 r d) = K (512 * k + r.val) d)
      ∧ st (k + 1) = (k0_pay20 c2 q (st k).1 kv, ⟨Rect.unit off S512x512.size inb, k0_pay19 c2 q kv⟩ :: (st k).2)) :
    ∀ k ≤ n, (∀ c, (st k).1 (ix2 0 c) = maxOf (512 * k) (scoreOf c2 K Q) c)
      ∧ ∀ f L (κ : Fin 3584) (c : Fin 512), κ.val < 512 * k →
        v.read (Elt Ideal) (v.writes (Elt Ideal) f ((st k).2 ++ L)) (ix2 κ c) = scoreOf c2 K Q κ.val c := by
  intro k
  induction k with
  | zero =>
    intro _
    refine ⟨fun c => ?_, fun f L κ c h => absurd h (by omega)⟩
    rw [h0]
    exact (pay17_at c).trans (by simp [maxOf])
  | succ k ih =>
    intro hk
    obtain ⟨ih1, ih2⟩ := ih (by omega)
    obtain ⟨kv, off, inb, hoff, hkv, hst⟩ := hs k (by omega)
    have hsc : ∀ (r : Fin 512) (c : Fin 512), (∑ d : Fin 128, kv (ix2 r d) * q (ix4 0 0 c d)) * c2 = scoreOf c2 K Q (512 * k + r.val) c := by
      intro r c
      unfold scoreOf
      congr 1
      exact Finset.sum_congr rfl fun d _ => by rw [hkv, hQ]
    rw [hst]
    refine ⟨fun c => ?_, fun f L κ c h => ?_⟩
    · refine (pay20_at c2 q (st k).1 kv c).trans ?_
      rw [ih1]
      unfold maxOf
      rw [sup_chunk]
      congr 2
      funext r
      exact hsc r c
    · by_cases hκ : κ.val < 512 * k
      · refine (View.read_writes_cons_unit_of_not_mem v f inb _ _ (ix2 κ c) hoff 0 (Or.inl hκ)).trans ?_
        exact ih2 f L κ c hκ
      · refine (View.read_writes_cons_unit_of_mem v f inb _ _ (ix2 κ c) (ix2 (⟨κ.val - 512 * k, by omega⟩ : Fin 512) c) hoff ?_).trans ?_
        · intro a
          match a with
          | 0 => show κ.val = 512 * k + (κ.val - 512 * k); omega
          | 1 => show c.val = 0 + c.val; omega
        · refine (pay19_at c2 q kv _ c).trans ((hsc _ c).trans ?_)
          show scoreOf c2 K Q (512 * k + (κ.val - 512 * k)) c = _
          rw [show 512 * k + (κ.val - 512 * k) = κ.val by omega]

/-- What the second pass holds after `k` chunks: the running denominator, and the weighted sum of the values. -/
theorem gather_inv (v : View sig' κ' sp' S128x512 .f32) (n : ℕ) (m : Vec Ideal S1x512 .f32)
    (V : Fin 128 → ℕ → EReal) (s : ℕ → Fin 512 → EReal) (G : v.ty.Contents (Elt Ideal))
    (hG : ∀ (d : Fin 128) (c : Fin 512), v.read (Elt Ideal) G (ix2 d c) = (0 : EReal))
    (st : ℕ → FVec Ideal S1x512 .f32 × List (View.Piece (Elt Ideal) S128x512 .f32))
    (h0 : st 0 = (k0_pay25, []))
    (hs : ∀ k < n, ∃ (sv : Vec Ideal S512x512 .f32) (vv : Vec Ideal S128x512 .fp8e4m3) (inb : ∀ a, (![0, 0] : Fin 2 → ℕ) a + S128x512.size a ≤ S128x512.size a),
      (∀ (r c : Fin 512), sv (ix2 r c) = s (512 * k + r.val) c) ∧ (∀ (d : Fin 128) (r : Fin 512), vv (ix2 d r) = V d (512 * k + r.val))
      ∧ st (k + 1) = (k0_pay28 m (st k).1 sv, ⟨Rect.unit ![0, 0] S128x512.size inb, k0_pay27 m sv
          (v.readAt (Elt Ideal) (Rect.unit ![0, 0] S128x512.size inb).toLoadRect (v.writes (Elt Ideal) G (st k).2)) vv⟩ :: (st k).2)) :
    ∀ k ≤ n, (∀ c, (st k).1 (ix2 0 c) = lOf (512 * k) (eOf s fun c => m (ix2 0 c)) c)
      ∧ (∀ (d : Fin 128) (c : Fin 512), v.read (Elt Ideal) (v.writes (Elt Ideal) G (st k).2) (ix2 d c) = accOf (512 * k) V (eOf s fun c => m (ix2 0 c)) d c)
      ∧ (0 < k → ∀ f L (d : Fin 128) (c : Fin 512), v.read (Elt Ideal) (v.writes (Elt Ideal) f ((st k).2 ++ L)) (ix2 d c)
          = accOf (512 * k) V (eOf s fun c => m (ix2 0 c)) d c) := by
  intro k
  induction k with
  | zero =>
    intro _
    rw [h0]
    refine ⟨fun c => (pay25_at c).trans (by simp [lOf]), fun d c => (hG d c).trans (by simp [accOf]), fun h => absurd h (by omega)⟩
  | succ k ih =>
    intro hk
    obtain ⟨ih1, ih2, -⟩ := ih (by omega)
    obtain ⟨sv, vv, inb, hsv, hvv, hst⟩ := hs k (by omega)
    rw [hst]
    have key : ∀ f L (d : Fin 128) (c : Fin 512), v.read (Elt Ideal) (v.writes (Elt Ideal) f (⟨Rect.unit ![0, 0] S128x512.size inb, k0_pay27 m sv
          (v.readAt (Elt Ideal) (Rect.unit ![0, 0] S128x512.size inb).toLoadRect (v.writes (Elt Ideal) G (st k).2)) vv⟩ :: L)) (ix2 d c)
          = accOf (512 * (k + 1)) V (eOf s fun c => m (ix2 0 c)) d c := by
      intro f L d c
      refine (View.read_writes_cons_unit_of_mem v f inb _ _ (ix2 d c) (ix2 d c) rfl ?_).trans ?_
      · intro a
        match a with
        | 0 => show d.val = 0 + d.val; omega
        | 1 => show c.val = 0 + c.val; omega
      · refine (pay27_at m sv _ vv d c).trans ?_
        unfold accOf
        rw [sum_chunk]
        congr 1
        · refine Eq.trans ?_ (ih2 d c)
          show v.read (Elt Ideal) (v.writes (Elt Ideal) G (st k).2) ((Rect.unit ![0, 0] S128x512.size inb).idx (ix2 d c)) = _
          congr 1
          funext a
          match a with
          | 0 => exact Fin.ext (by show 0 + 1 * d.val = d.val; omega)
          | 1 => exact Fin.ext (by show 0 + 1 * c.val = c.val; omega)
        · refine Finset.sum_congr rfl fun r _ => ?_
          rw [hvv, hsv]
          rfl
    refine ⟨fun c => ?_, fun d c => key _ _ d c, fun _ f L d c => key _ _ d c⟩
    refine (pay28_at m (st k).1 sv c).trans ?_
    rw [ih1]
    unfold lOf
    rw [sum_chunk]
    congr 1
    refine Finset.sum_congr rfl fun r _ => ?_
    rw [hsv]
    rfl
end
end Cert.KernelIdeal.Value
-- ==== Proof.Trips.lean ====
module
public import proofs.«01_k».proof.Proof.Recur
public import proofs.«01_k».proof.Proof.Gen.KernelIdeal.Loops
@[expose] public section
set_option maxRecDepth 16384
noncomputable section
/-! Each loop of the kernel body in closed form: what one trip does, how many trips there are, and what the loop leaves. -/
namespace Cert.KernelIdeal.Value
open Cert.KernelIdeal Cert.KernelIdeal.Gen
open Idealize.ShloMosaic Idealize.ShloMosaic.TcCoe
open Idealize.SL.Sem

/-- Key chunks attended to at a grid point: four in the first frame, seven in the others. -/
def nchunks (i : grid0.Coords) : ℕ := if (i 2).val = 0 then 4 else 7
/-- Keys attended to at a grid point. -/
def nkeys (i : grid0.Coords) : ℕ := 512 * nchunks i
theorem nchunks_le (i : grid0.Coords) : nchunks i ≤ 7 := by unfold nchunks; split <;> omega
theorem nchunks_pos (i : grid0.Coords) : 0 < nchunks i := by unfold nchunks; split <;> omega
theorem nkeys_eq {i : grid0.Coords} {t : ℕ} (h : t = nchunks i) : 512 * t = nkeys i := by rw [h]; rfl
theorem trips_le {i : grid0.Coords} {t k : ℕ} (h : t = nchunks i) (hk : k < t) : k < 7 := lt_of_lt_of_le hk (h ▸ nchunks_le i)
theorem trips_pos {i : grid0.Coords} {t : ℕ} (h : t = nchunks i) : 0 < t := h ▸ nchunks_pos i
theorem trips_lt_nkeys {i : grid0.Coords} {t k : ℕ} (h : t = nchunks i) (hk : k < t) : 512 * k + 512 ≤ nkeys i := by
  rw [← nkeys_eq h]; omega
theorem trips_t1 : ∀ i : grid0.Coords, (k0_t1_loop i).trips = nchunks i := by decide +kernel
theorem trips_t2 : ∀ i : grid0.Coords, (k0_t2_loop i).trips = 0 := by decide +kernel
theorem trips_t3 : ∀ i : grid0.Coords, (k0_t3_loop i).trips = nchunks i := by decide +kernel
theorem trips_t4 : ∀ i : grid0.Coords, (k0_t4_loop i).trips = 0 := by decide +kernel
theorem trips_t5 : ∀ i : grid0.Coords, (k0_t5_loop i).trips = nchunks i := by decide +kernel
theorem trips_t6 : ∀ i : grid0.Coords, (k0_t6_loop i).trips = 0 := by decide +kernel
theorem trips_t7 : ∀ i : grid0.Coords, (k0_t7_loop i).trips = nchunks i := by decide +kernel
theorem trips_t8 : ∀ i : grid0.Coords, (k0_t8_loop i).trips = 0 := by decide +kernel
theorem trips_t9 : ∀ i : grid0.Coords, (k0_t9_loop i).trips = nchunks i := by decide +kernel
theorem trips_t10 : ∀ i : grid0.Coords, (k0_t10_loop i).trips = 0 := by decide +kernel
theorem trips_t11 : ∀ i : grid0.Coords, (k0_t11_loop i).trips = nchunks i := by decide +kernel
theorem trips_t12 : ∀ i : grid0.Coords, (k0_t12_loop i).trips = 0 := by decide +kernel

section
variable {sig' : RefSig} {κ' : Kind} {sp' : Space}
/-- A chunk of keys read from the key buffer. -/
theorem read_keys (v : View sig' κ' sp' S3584x128 .fp8e4m3) (X : v.ty.Contents (Elt Ideal)) (K : ℕ → Fin 128 → EReal)
    (hK : ∀ (κ : Fin 3584) d, v.read (Elt Ideal) X (ix2 κ d) = K κ.val d) {off : Fin 2 → ℕ} {k : ℕ} (ho : off = ![512 * k, 0])
    (inb : ∀ a, off a + S512x128.size a ≤ S3584x128.size a) (hk : k < 7) (r : Fin 512) (d : Fin 128) :
    v.readAt (Elt Ideal) (Rect.unit (s := S3584x128) off S512x128.size inb).toLoadRect X (ix2 r d) = K (512 * k + r.val) d := by
  subst ho
  refine Eq.trans ?_ (hK ⟨512 * k + r.val, by omega⟩ d)
  show v.read (Elt Ideal) X ((Rect.unit (s := S3584x128) ![512 * k, 0] S512x128.size inb).idx (ix2 r d)) = _
  congr 1
  funext a
  match a with
  | 0 => exact Fin.ext (by show 512 * k + 1 * r.val = 512 * k + r.val; omega)
  | 1 => exact Fin.ext (by show 0 + 1 * d.val = d.val; omega)
/-- A chunk of scores read from the score buffer. -/
theorem read_scores (v : View sig' κ' sp' S3584x512 .f32) (X : v.ty.Contents (Elt Ideal)) (s : ℕ → Fin 512 → EReal) {N : ℕ}
    (hS : ∀ (κ : Fin 3584) (c : Fin 512), κ.val < N → v.read (Elt Ideal) X (ix2 κ c) = s κ.val c) {off : Fin 2 → ℕ} {k : ℕ} (ho : off = ![512 * k, 0])
    (inb : ∀ a, off a + S512x512.size a ≤ S3584x512.size a) (hN : 512 * k + 512 ≤ N) (hk : k < 7) (r c : Fin 512) :
    v.readAt (Elt Ideal) (Rect.unit (s := S3584x512) off S512x512.size inb).toLoadRect X (ix2 r c) = s (512 * k + r.val) c := by
  subst ho
  refine Eq.trans ?_ (hS ⟨512 * k + r.val, by omega⟩ c (by show 512 * k + r.val < N; omega))
  show v.read (Elt Ideal) X ((Rect.unit (s := S3584x512) ![512 * k, 0] S512x512.size inb).idx (ix2 r c)) = _
  congr 1
  funext a
  match a with
  | 0 => exact Fin.ext (by show 512 * k + 1 * r.val = 512 * k + r.val; omega)
  | 1 => exact Fin.ext (by show 0 + 1 * c.val = c.val; omega)
/-- A chunk of values read from the value buffer. -/
theorem read_values (v : View sig' κ' sp' S128x3584 .fp8e4m3) (X : v.ty.Contents (Elt Ideal)) (V : Fin 128 → ℕ → EReal)
    (hV : ∀ d (κ : Fin 3584), v.read (Elt Ideal) X (ix2 d κ) = V d κ.val) {off : Fin 2 → ℕ} {k : ℕ} (ho : off = ![0, 512 * k])
    (inb : ∀ a, off a + S128x512.size a ≤ S128x3584.size a) (hk : k < 7) (d : Fin 128) (r : Fin 512) :
    v.readAt (Elt Ideal) (Rect.unit (s := S128x3584) off S128x512.size inb).toLoadRect X (ix2 d r) = V d (512 * k + r.val) := by
  subst ho
  refine Eq.trans ?_ (hV d ⟨512 * k + r.val, by omega⟩)
  show v.read (Elt Ideal) X ((Rect.unit (s := S128x3584) ![0, 512 * k] S128x512.size inb).idx (ix2 d r)) = _
  congr 1
  funext a
  match a with
  | 0 => exact Fin.ext (by show 0 + 1 * d.val = d.val; omega)
  | 1 => exact Fin.ext (by show 512 * k + 1 * r.val = 512 * k + r.val; omega)
end

/-- One trip of score loop 1: the new running maximum and the scores stored. -/
theorem R_t1 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (arg2 : BitVec 32) (v5 : Ideal .f32) (v25 : FVec Ideal S128x512 .fp8e4m3) (v41 : Vec Ideal S1x1x512x128 .fp8e4m3) (X_arg14 : BufTy.Contents (Elt Ideal) arg14.view.ty) (k : Fin (k0_t1_loop i).trips) (acc : FVec Ideal S1x512 .f32) :
    tripR_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v5 v25 v41 X_arg14 k acc = k0_pay20 v5 v41 acc (arg14.view.readAt (Elt Ideal) (Rect.unit (s := S3584x128) (k0_off3 i k) S512x128.size (k0_off3_inb i k)).toLoadRect X_arg14) := by
  unfold tripR_k0_t1 trip_k0_t1
  rfl
theorem L_t1 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (arg2 : BitVec 32) (v5 : Ideal .f32) (v25 : FVec Ideal S128x512 .fp8e4m3) (v41 : Vec Ideal S1x1x512x128 .fp8e4m3) (X_arg14 : BufTy.Contents (Elt Ideal) arg14.view.ty) (k : Fin (k0_t1_loop i).trips) (acc : FVec Ideal S1x512 .f32) :
    tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v5 v25 v41 X_arg14 k acc = [⟨Rect.unit (k0_off4 i k) S512x512.size (k0_off4_inb i k), k0_pay19 v5 v41 (arg14.view.readAt (Elt Ideal) (Rect.unit (s := S3584x128) (k0_off3 i k) S512x128.size (k0_off3_inb i k)).toLoadRect X_arg14)⟩] := by
  unfold tripL_k0_t1 trip_k0_t1
  rfl

/-- What score loops 1 and 2 leave: the maximum of all scores, and the scores themselves. -/
theorem score_t1 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (arg2 : BitVec 32) (v5 : Ideal .f32) (v25 : FVec Ideal S128x512 .fp8e4m3) (v41 : Vec Ideal S1x1x512x128 .fp8e4m3) (X_arg14 : BufTy.Contents (Elt Ideal) arg14.view.ty) (K : ℕ → Fin 128 → EReal) (Q : Fin 512 → Fin 128 → EReal)
    (hK : ∀ (κ : Fin 3584) d, arg14.view.read (Elt Ideal) X_arg14 (ix2 κ d) = K κ.val d) (hQ : ∀ c d, v41 (ix4 0 0 c d) = Q c d) :
    (∀ x, (st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v5 v25 v41 X_arg14 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v5 v25 v41 X_arg14 k0_pay17 (Scf.trips (k0_t1_loop i).lb (k0_t1_loop i).ub (k0_t1_loop i).st)).1 (Scf.trips (k0_t2_loop i).lb (k0_t2_loop i).ub (k0_t2_loop i).st)).1 (ix2 0 x) = maxOf (nkeys i) (scoreOf v5 K Q) x)
      ∧ ∀ f L (κ : Fin 3584) (x : Fin 512), κ.val < nkeys i →
        arg16.view.read (Elt Ideal) (arg16.view.writes (Elt Ideal) f ((st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v5 v25 v41 X_arg14 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v5 v25 v41 X_arg14 k0_pay17 (Scf.trips (k0_t1_loop i).lb (k0_t1_loop i).ub (k0_t1_loop i).st)).1 (Scf.trips (k0_t2_loop i).lb (k0_t2_loop i).ub (k0_t2_loop i).st)).2 ++ ((st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v5 v25 v41 X_arg14 k0_pay17 (Scf.trips (k0_t1_loop i).lb (k0_t1_loop i).ub (k0_t1_loop i).st)).2 ++ L))) (ix2 κ x) = scoreOf v5 K Q κ.val x := by
  have h2 := trips_t2 i
  have h1 := trips_t1 i
  unfold Scf.Loop.trips at h2 h1
  have e2 : ∀ a, st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v5 v25 v41 X_arg14 a 0 = (a, []) := fun a => rfl
  have hT : (k0_t1_loop i).trips = nchunks i := h1
  rw [h2, h1]
  simp only [e2, List.nil_append]
  have key := score_inv arg16.view (nchunks i) v5 v41 K Q hQ (fun k => st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v5 v25 v41 X_arg14 k0_pay17 k) rfl
    (fun k hk => ⟨(arg14.view.readAt (Elt Ideal) (Rect.unit (s := S3584x128) (k0_off3 i ⟨k, hT ▸ hk⟩) S512x128.size (k0_off3_inb i ⟨k, hT ▸ hk⟩)).toLoadRect X_arg14), k0_off4 i ⟨k, hT ▸ hk⟩, k0_off4_inb i ⟨k, hT ▸ hk⟩, k0_off4_eq i ⟨k, hT ▸ hk⟩,
      fun r d => read_keys arg14.view X_arg14 K hK (k0_off3_eq i ⟨k, hT ▸ hk⟩) (k0_off3_inb i ⟨k, hT ▸ hk⟩) (lt_of_lt_of_le hk (nchunks_le i)) r d,
      (st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v5 v25 v41 X_arg14 k0_pay17 ⟨k, hT ▸ hk⟩).trans (by rw [R_t1, L_t1]; rfl)⟩) (nchunks i) le_rfl
  exact key

/-- One trip of gather loop 3: the new running denominator and the accumulator stored. -/
theorem R_t3 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v50 : FVec Ideal S1x512 .f32) (v55 : FVec Ideal S1x512 .f32) (X_arg15 : BufTy.Contents (Elt Ideal) arg15.view.ty) (X_arg16 : BufTy.Contents (Elt Ideal) arg16.view.ty) (k : Fin (k0_t3_loop i).trips) (acc : FVec Ideal S1x512 .f32) (g : BufTy.Contents (Elt Ideal) arg17.view.ty) :
    tripR_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 X_arg15 X_arg16 k acc g = k0_pay28 v50 acc (arg16.view.readAt (Elt Ideal) (Rect.unit (s := S3584x512) (k0_off7 i k) S512x512.size (k0_off7_inb i k)).toLoadRect X_arg16) := by
  unfold tripR_k0_t3 trip_k0_t3
  rfl
theorem L_t3 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v50 : FVec Ideal S1x512 .f32) (v55 : FVec Ideal S1x512 .f32) (X_arg15 : BufTy.Contents (Elt Ideal) arg15.view.ty) (X_arg16 : BufTy.Contents (Elt Ideal) arg16.view.ty) (k : Fin (k0_t3_loop i).trips) (acc : FVec Ideal S1x512 .f32) (g : BufTy.Contents (Elt Ideal) arg17.view.ty) :
    tripL_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 X_arg15 X_arg16 k acc g = [⟨(Rect.unit ![0, 0] S128x512.size inb_S128x512_S128x512_0_0), k0_pay27 v50 (arg16.view.readAt (Elt Ideal) (Rect.unit (s := S3584x512) (k0_off7 i k) S512x512.size (k0_off7_inb i k)).toLoadRect X_arg16) (arg17.view.readAt (Elt Ideal) (Rect.unit ![0, 0] S128x512.size inb_S128x512_S128x512_0_0).toLoadRect g) (arg15.view.readAt (Elt Ideal) (Rect.unit (s := S128x3584) (k0_off8 i k) S128x512.size (k0_off8_inb i k)).toLoadRect X_arg15)⟩] := by
  unfold tripL_k0_t3 trip_k0_t3
  rfl

/-- What gather loops 3 and 4 leave: the sum of the weights, and the weighted sum of the values. -/
theorem gather_t3 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v50 : FVec Ideal S1x512 .f32) (v55 : FVec Ideal S1x512 .f32) (X_arg15 : BufTy.Contents (Elt Ideal) arg15.view.ty) (X_arg16 : BufTy.Contents (Elt Ideal) arg16.view.ty) (G_arg17 : BufTy.Contents (Elt Ideal) arg17.view.ty) (G' : BufTy.Contents (Elt Ideal) arg17.view.ty) (V : Fin 128 → ℕ → EReal) (s : ℕ → Fin 512 → EReal) (mx : Fin 512 → EReal)
    (hS : ∀ (κ : Fin 3584) (c : Fin 512), κ.val < nkeys i → arg16.view.read (Elt Ideal) X_arg16 (ix2 κ c) = s κ.val c)
    (hV : ∀ d (κ : Fin 3584), arg15.view.read (Elt Ideal) X_arg15 (ix2 d κ) = V d κ.val)
    (hG : ∀ (d : Fin 128) (c : Fin 512), arg17.view.read (Elt Ideal) G_arg17 (ix2 d c) = (0 : EReal))
    (hm : ∀ x : Fin 512, v50 (ix2 0 x) = mx x) :
    (∀ x, (st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 X_arg15 X_arg16 G' (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 X_arg15 X_arg16 G_arg17 k0_pay25 (Scf.trips (k0_t3_loop i).lb (k0_t3_loop i).ub (k0_t3_loop i).st)).1 (Scf.trips (k0_t4_loop i).lb (k0_t4_loop i).ub (k0_t4_loop i).st)).1 (ix2 0 x) = lOf (nkeys i) (eOf s mx) x)
      ∧ ∀ f L (d : Fin 128) (x : Fin 512),
        arg17.view.read (Elt Ideal) (arg17.view.writes (Elt Ideal) f ((st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 X_arg15 X_arg16 G' (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 X_arg15 X_arg16 G_arg17 k0_pay25 (Scf.trips (k0_t3_loop i).lb (k0_t3_loop i).ub (k0_t3_loop i).st)).1 (Scf.trips (k0_t4_loop i).lb (k0_t4_loop i).ub (k0_t4_loop i).st)).2 ++ ((st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 X_arg15 X_arg16 G_arg17 k0_pay25 (Scf.trips (k0_t3_loop i).lb (k0_t3_loop i).ub (k0_t3_loop i).st)).2 ++ L))) (ix2 d x) = accOf (nkeys i) V (eOf s mx) d x := by
  have h2 := trips_t4 i
  have h1 := trips_t3 i
  unfold Scf.Loop.trips at h2 h1
  obtain rfl : (fun x => v50 (ix2 0 x)) = mx := funext hm
  have e2 : ∀ a, st_k0_t4 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 X_arg15 X_arg16 G' a 0 = (a, []) := fun a => rfl
  have hT : (k0_t3_loop i).trips = nchunks i := h1
  rw [h2, h1]
  simp only [e2, List.nil_append]
  have key := gather_inv arg17.view (nchunks i) v50 V s G_arg17 hG (fun k => st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 X_arg15 X_arg16 G_arg17 k0_pay25 k) rfl
    (fun k hk => ⟨(arg16.view.readAt (Elt Ideal) (Rect.unit (s := S3584x512) (k0_off7 i ⟨k, hT ▸ hk⟩) S512x512.size (k0_off7_inb i ⟨k, hT ▸ hk⟩)).toLoadRect X_arg16), (arg15.view.readAt (Elt Ideal) (Rect.unit (s := S128x3584) (k0_off8 i ⟨k, hT ▸ hk⟩) S128x512.size (k0_off8_inb i ⟨k, hT ▸ hk⟩)).toLoadRect X_arg15), inb_S128x512_S128x512_0_0,
      fun r x => read_scores arg16.view X_arg16 s hS (k0_off7_eq i ⟨k, hT ▸ hk⟩) (k0_off7_inb i ⟨k, hT ▸ hk⟩) (trips_lt_nkeys rfl hk) (lt_of_lt_of_le hk (nchunks_le i)) r x,
      fun d r => read_values arg15.view X_arg15 V hV (k0_off8_eq i ⟨k, hT ▸ hk⟩) (k0_off8_inb i ⟨k, hT ▸ hk⟩) (lt_of_lt_of_le hk (nchunks_le i)) d r,
      (st_k0_t3_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 X_arg15 X_arg16 G_arg17 k0_pay25 ⟨k, hT ▸ hk⟩).trans (by rw [R_t3, L_t3]; rfl)⟩) (nchunks i) le_rfl
  exact ⟨key.1, fun f L d x => key.2.2 (nchunks_pos i) f L d x⟩

/-- One trip of score loop 5: the new running maximum and the scores stored. -/
theorem R_t5 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v50 : FVec Ideal S1x512 .f32) (v55 : FVec Ideal S1x512 .f32) (v73 : Vec Ideal S1x1x512x128 .fp8e4m3) (X_arg14 : BufTy.Contents (Elt Ideal) arg14.view.ty) (k : Fin (k0_t5_loop i).trips) (acc : FVec Ideal S1x512 .f32) :
    tripR_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 v73 X_arg14 k acc = k0_pay20 v5 v73 acc (arg14.view.readAt (Elt Ideal) (Rect.unit (s := S3584x128) (k0_off11 i k) S512x128.size (k0_off11_inb i k)).toLoadRect X_arg14) := by
  unfold tripR_k0_t5 trip_k0_t5
  rfl
theorem L_t5 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v50 : FVec Ideal S1x512 .f32) (v55 : FVec Ideal S1x512 .f32) (v73 : Vec Ideal S1x1x512x128 .fp8e4m3) (X_arg14 : BufTy.Contents (Elt Ideal) arg14.view.ty) (k : Fin (k0_t5_loop i).trips) (acc : FVec Ideal S1x512 .f32) :
    tripL_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 v73 X_arg14 k acc = [⟨Rect.unit (k0_off12 i k) S512x512.size (k0_off12_inb i k), k0_pay19 v5 v73 (arg14.view.readAt (Elt Ideal) (Rect.unit (s := S3584x128) (k0_off11 i k) S512x128.size (k0_off11_inb i k)).toLoadRect X_arg14)⟩] := by
  unfold tripL_k0_t5 trip_k0_t5
  rfl

/-- What score loops 5 and 6 leave: the maximum of all scores, and the scores themselves. -/
theorem score_t5 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v50 : FVec Ideal S1x512 .f32) (v55 : FVec Ideal S1x512 .f32) (v73 : Vec Ideal S1x1x512x128 .fp8e4m3) (X_arg14 : BufTy.Contents (Elt Ideal) arg14.view.ty) (K : ℕ → Fin 128 → EReal) (Q : Fin 512 → Fin 128 → EReal)
    (hK : ∀ (κ : Fin 3584) d, arg14.view.read (Elt Ideal) X_arg14 (ix2 κ d) = K κ.val d) (hQ : ∀ c d, v73 (ix4 0 0 c d) = Q c d) :
    (∀ x, (st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 v73 X_arg14 (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 v73 X_arg14 k0_pay34 (Scf.trips (k0_t5_loop i).lb (k0_t5_loop i).ub (k0_t5_loop i).st)).1 (Scf.trips (k0_t6_loop i).lb (k0_t6_loop i).ub (k0_t6_loop i).st)).1 (ix2 0 x) = maxOf (nkeys i) (scoreOf v5 K Q) x)
      ∧ ∀ f L (κ : Fin 3584) (x : Fin 512), κ.val < nkeys i →
        arg16.view.read (Elt Ideal) (arg16.view.writes (Elt Ideal) f ((st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 v73 X_arg14 (st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 v73 X_arg14 k0_pay34 (Scf.trips (k0_t5_loop i).lb (k0_t5_loop i).ub (k0_t5_loop i).st)).1 (Scf.trips (k0_t6_loop i).lb (k0_t6_loop i).ub (k0_t6_loop i).st)).2 ++ ((st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 v73 X_arg14 k0_pay34 (Scf.trips (k0_t5_loop i).lb (k0_t5_loop i).ub (k0_t5_loop i).st)).2 ++ L))) (ix2 κ x) = scoreOf v5 K Q κ.val x := by
  have h2 := trips_t6 i
  have h1 := trips_t5 i
  unfold Scf.Loop.trips at h2 h1
  have e2 : ∀ a, st_k0_t6 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 v73 X_arg14 a 0 = (a, []) := fun a => rfl
  have hT : (k0_t5_loop i).trips = nchunks i := h1
  rw [h2, h1]
  simp only [e2, List.nil_append]
  have key := score_inv arg16.view (nchunks i) v5 v73 K Q hQ (fun k => st_k0_t5 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 v73 X_arg14 k0_pay34 k) rfl
    (fun k hk => ⟨(arg14.view.readAt (Elt Ideal) (Rect.unit (s := S3584x128) (k0_off11 i ⟨k, hT ▸ hk⟩) S512x128.size (k0_off11_inb i ⟨k, hT ▸ hk⟩)).toLoadRect X_arg14), k0_off12 i ⟨k, hT ▸ hk⟩, k0_off12_inb i ⟨k, hT ▸ hk⟩, k0_off12_eq i ⟨k, hT ▸ hk⟩,
      fun r d => read_keys arg14.view X_arg14 K hK (k0_off11_eq i ⟨k, hT ▸ hk⟩) (k0_off11_inb i ⟨k, hT ▸ hk⟩) (lt_of_lt_of_le hk (nchunks_le i)) r d,
      (st_k0_t5_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v50 v55 v73 X_arg14 k0_pay34 ⟨k, hT ▸ hk⟩).trans (by rw [R_t5, L_t5]; rfl)⟩) (nchunks i) le_rfl
  exact key

/-- One trip of gather loop 7: the new running denominator and the accumulator stored. -/
theorem R_t7 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v82 : FVec Ideal S1x512 .f32) (v87 : FVec Ideal S1x512 .f32) (c0_i32_67 : BitVec 32) (v88 : BitVec 32) (c1_i32_68 : BitVec 32) (X_arg15 : BufTy.Contents (Elt Ideal) arg15.view.ty) (X_arg16 : BufTy.Contents (Elt Ideal) arg16.view.ty) (k : Fin (k0_t7_loop i).trips) (acc : FVec Ideal S1x512 .f32) (g : BufTy.Contents (Elt Ideal) arg17.view.ty) :
    tripR_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 X_arg15 X_arg16 k acc g = k0_pay28 v82 acc (arg16.view.readAt (Elt Ideal) (Rect.unit (s := S3584x512) (k0_off15 i k) S512x512.size (k0_off15_inb i k)).toLoadRect X_arg16) := by
  unfold tripR_k0_t7 trip_k0_t7
  rfl
theorem L_t7 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v82 : FVec Ideal S1x512 .f32) (v87 : FVec Ideal S1x512 .f32) (c0_i32_67 : BitVec 32) (v88 : BitVec 32) (c1_i32_68 : BitVec 32) (X_arg15 : BufTy.Contents (Elt Ideal) arg15.view.ty) (X_arg16 : BufTy.Contents (Elt Ideal) arg16.view.ty) (k : Fin (k0_t7_loop i).trips) (acc : FVec Ideal S1x512 .f32) (g : BufTy.Contents (Elt Ideal) arg17.view.ty) :
    tripL_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 X_arg15 X_arg16 k acc g = [⟨(Rect.unit ![0, 0] S128x512.size inb_S128x512_S128x512_0_0), k0_pay27 v82 (arg16.view.readAt (Elt Ideal) (Rect.unit (s := S3584x512) (k0_off15 i k) S512x512.size (k0_off15_inb i k)).toLoadRect X_arg16) (arg17.view.readAt (Elt Ideal) (Rect.unit ![0, 0] S128x512.size inb_S128x512_S128x512_0_0).toLoadRect g) (arg15.view.readAt (Elt Ideal) (Rect.unit (s := S128x3584) (k0_off16 i k) S128x512.size (k0_off16_inb i k)).toLoadRect X_arg15)⟩] := by
  unfold tripL_k0_t7 trip_k0_t7
  rfl

/-- What gather loops 7 and 8 leave: the sum of the weights, and the weighted sum of the values. -/
theorem gather_t7 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v82 : FVec Ideal S1x512 .f32) (v87 : FVec Ideal S1x512 .f32) (c0_i32_67 : BitVec 32) (v88 : BitVec 32) (c1_i32_68 : BitVec 32) (X_arg15 : BufTy.Contents (Elt Ideal) arg15.view.ty) (X_arg16 : BufTy.Contents (Elt Ideal) arg16.view.ty) (G_arg17 : BufTy.Contents (Elt Ideal) arg17.view.ty) (G' : BufTy.Contents (Elt Ideal) arg17.view.ty) (V : Fin 128 → ℕ → EReal) (s : ℕ → Fin 512 → EReal) (mx : Fin 512 → EReal)
    (hS : ∀ (κ : Fin 3584) (c : Fin 512), κ.val < nkeys i → arg16.view.read (Elt Ideal) X_arg16 (ix2 κ c) = s κ.val c)
    (hV : ∀ d (κ : Fin 3584), arg15.view.read (Elt Ideal) X_arg15 (ix2 d κ) = V d κ.val)
    (hG : ∀ (d : Fin 128) (c : Fin 512), arg17.view.read (Elt Ideal) G_arg17 (ix2 d c) = (0 : EReal))
    (hm : ∀ x : Fin 512, v82 (ix2 0 x) = mx x) :
    (∀ x, (st_k0_t8 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 X_arg15 X_arg16 G' (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 X_arg15 X_arg16 G_arg17 k0_pay42 (Scf.trips (k0_t7_loop i).lb (k0_t7_loop i).ub (k0_t7_loop i).st)).1 (Scf.trips (k0_t8_loop i).lb (k0_t8_loop i).ub (k0_t8_loop i).st)).1 (ix2 0 x) = lOf (nkeys i) (eOf s mx) x)
      ∧ ∀ f L (d : Fin 128) (x : Fin 512),
        arg17.view.read (Elt Ideal) (arg17.view.writes (Elt Ideal) f ((st_k0_t8 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 X_arg15 X_arg16 G' (st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 X_arg15 X_arg16 G_arg17 k0_pay42 (Scf.trips (k0_t7_loop i).lb (k0_t7_loop i).ub (k0_t7_loop i).st)).1 (Scf.trips (k0_t8_loop i).lb (k0_t8_loop i).ub (k0_t8_loop i).st)).2 ++ ((st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 X_arg15 X_arg16 G_arg17 k0_pay42 (Scf.trips (k0_t7_loop i).lb (k0_t7_loop i).ub (k0_t7_loop i).st)).2 ++ L))) (ix2 d x) = accOf (nkeys i) V (eOf s mx) d x := by
  have h2 := trips_t8 i
  have h1 := trips_t7 i
  unfold Scf.Loop.trips at h2 h1
  obtain rfl : (fun x => v82 (ix2 0 x)) = mx := funext hm
  have e2 : ∀ a, st_k0_t8 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 X_arg15 X_arg16 G' a 0 = (a, []) := fun a => rfl
  have hT : (k0_t7_loop i).trips = nchunks i := h1
  rw [h2, h1]
  simp only [e2, List.nil_append]
  have key := gather_inv arg17.view (nchunks i) v82 V s G_arg17 hG (fun k => st_k0_t7 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 X_arg15 X_arg16 G_arg17 k0_pay42 k) rfl
    (fun k hk => ⟨(arg16.view.readAt (Elt Ideal) (Rect.unit (s := S3584x512) (k0_off15 i ⟨k, hT ▸ hk⟩) S512x512.size (k0_off15_inb i ⟨k, hT ▸ hk⟩)).toLoadRect X_arg16), (arg15.view.readAt (Elt Ideal) (Rect.unit (s := S128x3584) (k0_off16 i ⟨k, hT ▸ hk⟩) S128x512.size (k0_off16_inb i ⟨k, hT ▸ hk⟩)).toLoadRect X_arg15), inb_S128x512_S128x512_0_0,
      fun r x => read_scores arg16.view X_arg16 s hS (k0_off15_eq i ⟨k, hT ▸ hk⟩) (k0_off15_inb i ⟨k, hT ▸ hk⟩) (trips_lt_nkeys rfl hk) (lt_of_lt_of_le hk (nchunks_le i)) r x,
      fun d r => read_values arg15.view X_arg15 V hV (k0_off16_eq i ⟨k, hT ▸ hk⟩) (k0_off16_inb i ⟨k, hT ▸ hk⟩) (lt_of_lt_of_le hk (nchunks_le i)) d r,
      (st_k0_t7_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 X_arg15 X_arg16 G_arg17 k0_pay42 ⟨k, hT ▸ hk⟩).trans (by rw [R_t7, L_t7]; rfl)⟩) (nchunks i) le_rfl
  exact ⟨key.1, fun f L d x => key.2.2 (nchunks_pos i) f L d x⟩

/-- One trip of score loop 9: the new running maximum and the scores stored. -/
theorem R_t9 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v82 : FVec Ideal S1x512 .f32) (v87 : FVec Ideal S1x512 .f32) (c0_i32_67 : BitVec 32) (v88 : BitVec 32) (c1_i32_68 : BitVec 32) (v105 : Vec Ideal S1x1x512x128 .fp8e4m3) (X_arg14 : BufTy.Contents (Elt Ideal) arg14.view.ty) (k : Fin (k0_t9_loop i).trips) (acc : FVec Ideal S1x512 .f32) :
    tripR_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 v105 X_arg14 k acc = k0_pay20 v5 v105 acc (arg14.view.readAt (Elt Ideal) (Rect.unit (s := S3584x128) (k0_off19 i k) S512x128.size (k0_off19_inb i k)).toLoadRect X_arg14) := by
  unfold tripR_k0_t9 trip_k0_t9
  rfl
theorem L_t9 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v82 : FVec Ideal S1x512 .f32) (v87 : FVec Ideal S1x512 .f32) (c0_i32_67 : BitVec 32) (v88 : BitVec 32) (c1_i32_68 : BitVec 32) (v105 : Vec Ideal S1x1x512x128 .fp8e4m3) (X_arg14 : BufTy.Contents (Elt Ideal) arg14.view.ty) (k : Fin (k0_t9_loop i).trips) (acc : FVec Ideal S1x512 .f32) :
    tripL_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 v105 X_arg14 k acc = [⟨Rect.unit (k0_off20 i k) S512x512.size (k0_off20_inb i k), k0_pay19 v5 v105 (arg14.view.readAt (Elt Ideal) (Rect.unit (s := S3584x128) (k0_off19 i k) S512x128.size (k0_off19_inb i k)).toLoadRect X_arg14)⟩] := by
  unfold tripL_k0_t9 trip_k0_t9
  rfl

/-- What score loops 9 and 10 leave: the maximum of all scores, and the scores themselves. -/
theorem score_t9 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v5 : Ideal .f32) (v8 : Elt Ideal .f32) (v40 : BitVec 32) (v82 : FVec Ideal S1x512 .f32) (v87 : FVec Ideal S1x512 .f32) (c0_i32_67 : BitVec 32) (v88 : BitVec 32) (c1_i32_68 : BitVec 32) (v105 : Vec Ideal S1x1x512x128 .fp8e4m3) (X_arg14 : BufTy.Contents (Elt Ideal) arg14.view.ty) (K : ℕ → Fin 128 → EReal) (Q : Fin 512 → Fin 128 → EReal)
    (hK : ∀ (κ : Fin 3584) d, arg14.view.read (Elt Ideal) X_arg14 (ix2 κ d) = K κ.val d) (hQ : ∀ c d, v105 (ix4 0 0 c d) = Q c d) :
    (∀ x, (st_k0_t10 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 v105 X_arg14 (st_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 v105 X_arg14 k0_pay51 (Scf.trips (k0_t9_loop i).lb (k0_t9_loop i).ub (k0_t9_loop i).st)).1 (Scf.trips (k0_t10_loop i).lb (k0_t10_loop i).ub (k0_t10_loop i).st)).1 (ix2 0 x) = maxOf (nkeys i) (scoreOf v5 K Q) x)
      ∧ ∀ f L (κ : Fin 3584) (x : Fin 512), κ.val < nkeys i →
        arg16.view.read (Elt Ideal) (arg16.view.writes (Elt Ideal) f ((st_k0_t10 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 v105 X_arg14 (st_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 v105 X_arg14 k0_pay51 (Scf.trips (k0_t9_loop i).lb (k0_t9_loop i).ub (k0_t9_loop i).st)).1 (Scf.trips (k0_t10_loop i).lb (k0_t10_loop i).ub (k0_t10_loop i).st)).2 ++ ((st_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 v105 X_arg14 k0_pay51 (Scf.trips (k0_t9_loop i).lb (k0_t9_loop i).ub (k0_t9_loop i).st)).2 ++ L))) (ix2 κ x) = scoreOf v5 K Q κ.val x := by
  have h2 := trips_t10 i
  have h1 := trips_t9 i
  unfold Scf.Loop.trips at h2 h1
  have e2 : ∀ a, st_k0_t10 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 v105 X_arg14 a 0 = (a, []) := fun a => rfl
  have hT : (k0_t9_loop i).trips = nchunks i := h1
  rw [h2, h1]
  simp only [e2, List.nil_append]
  have key := score_inv arg16.view (nchunks i) v5 v105 K Q hQ (fun k => st_k0_t9 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 v105 X_arg14 k0_pay51 k) rfl
    (fun k hk => ⟨(arg14.view.readAt (Elt Ideal) (Rect.unit (s := S3584x128) (k0_off19 i ⟨k, hT ▸ hk⟩) S512x128.size (k0_off19_inb i ⟨k, hT ▸ hk⟩)).toLoadRect X_arg14), k0_off20 i ⟨k, hT ▸ hk⟩, k0_off20_inb i ⟨k, hT ▸ hk⟩, k0_off20_eq i ⟨k, hT ▸ hk⟩,
      fun r d => read_keys arg14.view X_arg14 K hK (k0_off19_eq i ⟨k, hT ▸ hk⟩) (k0_off19_inb i ⟨k, hT ▸ hk⟩) (lt_of_lt_of_le hk (nchunks_le i)) r d,
      (st_k0_t9_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v5 v8 v40 v82 v87 c0_i32_67 v88 c1_i32_68 v105 X_arg14 k0_pay51 ⟨k, hT ▸ hk⟩).trans (by rw [R_t9, L_t9]; rfl)⟩) (nchunks i) le_rfl
  exact key

/-- One trip of gather loop 11: the new running denominator and the accumulator stored. -/
theorem R_t11 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v114 : FVec Ideal S1x512 .f32) (X_arg15 : BufTy.Contents (Elt Ideal) arg15.view.ty) (X_arg16 : BufTy.Contents (Elt Ideal) arg16.view.ty) (k : Fin (k0_t11_loop i).trips) (acc : FVec Ideal S1x512 .f32) (g : BufTy.Contents (Elt Ideal) arg17.view.ty) :
    tripR_k0_t11 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v114 X_arg15 X_arg16 k acc g = k0_pay28 v114 acc (arg16.view.readAt (Elt Ideal) (Rect.unit (s := S3584x512) (k0_off23 i k) S512x512.size (k0_off23_inb i k)).toLoadRect X_arg16) := by
  unfold tripR_k0_t11 trip_k0_t11
  rfl
theorem L_t11 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v114 : FVec Ideal S1x512 .f32) (X_arg15 : BufTy.Contents (Elt Ideal) arg15.view.ty) (X_arg16 : BufTy.Contents (Elt Ideal) arg16.view.ty) (k : Fin (k0_t11_loop i).trips) (acc : FVec Ideal S1x512 .f32) (g : BufTy.Contents (Elt Ideal) arg17.view.ty) :
    tripL_k0_t11 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v114 X_arg15 X_arg16 k acc g = [⟨(Rect.unit ![0, 0] S128x512.size inb_S128x512_S128x512_0_0), k0_pay27 v114 (arg16.view.readAt (Elt Ideal) (Rect.unit (s := S3584x512) (k0_off23 i k) S512x512.size (k0_off23_inb i k)).toLoadRect X_arg16) (arg17.view.readAt (Elt Ideal) (Rect.unit ![0, 0] S128x512.size inb_S128x512_S128x512_0_0).toLoadRect g) (arg15.view.readAt (Elt Ideal) (Rect.unit (s := S128x3584) (k0_off24 i k) S128x512.size (k0_off24_inb i k)).toLoadRect X_arg15)⟩] := by
  unfold tripL_k0_t11 trip_k0_t11
  rfl

/-- What gather loops 11 and 12 leave: the sum of the weights, and the weighted sum of the values. -/
theorem gather_t11 (𝒱 : Variants) (c : Dev nD) (bd : Option 𝒱.V) (i : grid0.Coords) (arg3 : Memref sig .tc .smem S40 .i32) (harg3 : arg3.IsWhole) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole) (v114 : FVec Ideal S1x512 .f32) (X_arg15 : BufTy.Contents (Elt Ideal) arg15.view.ty) (X_arg16 : BufTy.Contents (Elt Ideal) arg16.view.ty) (G_arg17 : BufTy.Contents (Elt Ideal) arg17.view.ty) (G' : BufTy.Contents (Elt Ideal) arg17.view.ty) (V : Fin 128 → ℕ → EReal) (s : ℕ → Fin 512 → EReal) (mx : Fin 512 → EReal)
    (hS : ∀ (κ : Fin 3584) (c : Fin 512), κ.val < nkeys i → arg16.view.read (Elt Ideal) X_arg16 (ix2 κ c) = s κ.val c)
    (hV : ∀ d (κ : Fin 3584), arg15.view.read (Elt Ideal) X_arg15 (ix2 d κ) = V d κ.val)
    (hG : ∀ (d : Fin 128) (c : Fin 512), arg17.view.read (Elt Ideal) G_arg17 (ix2 d c) = (0 : EReal))
    (hm : ∀ x : Fin 512, v114 (ix2 0 x) = mx x) :
    (∀ x, (st_k0_t12 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v114 X_arg15 X_arg16 G' (st_k0_t11 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v114 X_arg15 X_arg16 G_arg17 k0_pay59 (Scf.trips (k0_t11_loop i).lb (k0_t11_loop i).ub (k0_t11_loop i).st)).1 (Scf.trips (k0_t12_loop i).lb (k0_t12_loop i).ub (k0_t12_loop i).st)).1 (ix2 0 x) = lOf (nkeys i) (eOf s mx) x)
      ∧ ∀ f L (d : Fin 128) (x : Fin 512),
        arg17.view.read (Elt Ideal) (arg17.view.writes (Elt Ideal) f ((st_k0_t12 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v114 X_arg15 X_arg16 G' (st_k0_t11 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v114 X_arg15 X_arg16 G_arg17 k0_pay59 (Scf.trips (k0_t11_loop i).lb (k0_t11_loop i).ub (k0_t11_loop i).st)).1 (Scf.trips (k0_t12_loop i).lb (k0_t12_loop i).ub (k0_t12_loop i).st)).2 ++ ((st_k0_t11 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v114 X_arg15 X_arg16 G_arg17 k0_pay59 (Scf.trips (k0_t11_loop i).lb (k0_t11_loop i).ub (k0_t11_loop i).st)).2 ++ L))) (ix2 d x) = accOf (nkeys i) V (eOf s mx) d x := by
  have h2 := trips_t12 i
  have h1 := trips_t11 i
  unfold Scf.Loop.trips at h2 h1
  obtain rfl : (fun x => v114 (ix2 0 x)) = mx := funext hm
  have e2 : ∀ a, st_k0_t12 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v114 X_arg15 X_arg16 G' a 0 = (a, []) := fun a => rfl
  have hT : (k0_t11_loop i).trips = nchunks i := h1
  rw [h2, h1]
  simp only [e2, List.nil_append]
  have key := gather_inv arg17.view (nchunks i) v114 V s G_arg17 hG (fun k => st_k0_t11 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v114 X_arg15 X_arg16 G_arg17 k0_pay59 k) rfl
    (fun k hk => ⟨(arg16.view.readAt (Elt Ideal) (Rect.unit (s := S3584x512) (k0_off23 i ⟨k, hT ▸ hk⟩) S512x512.size (k0_off23_inb i ⟨k, hT ▸ hk⟩)).toLoadRect X_arg16), (arg15.view.readAt (Elt Ideal) (Rect.unit (s := S128x3584) (k0_off24 i ⟨k, hT ▸ hk⟩) S128x512.size (k0_off24_inb i ⟨k, hT ▸ hk⟩)).toLoadRect X_arg15), inb_S128x512_S128x512_0_0,
      fun r x => read_scores arg16.view X_arg16 s hS (k0_off23_eq i ⟨k, hT ▸ hk⟩) (k0_off23_inb i ⟨k, hT ▸ hk⟩) (trips_lt_nkeys rfl hk) (lt_of_lt_of_le hk (nchunks_le i)) r x,
      fun d r => read_values arg15.view X_arg15 V hV (k0_off24_eq i ⟨k, hT ▸ hk⟩) (k0_off24_inb i ⟨k, hT ▸ hk⟩) (lt_of_lt_of_le hk (nchunks_le i)) d r,
      (st_k0_t11_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v114 X_arg15 X_arg16 G_arg17 k0_pay59 ⟨k, hT ▸ hk⟩).trans (by rw [R_t11, L_t11]; rfl)⟩) (nchunks i) le_rfl
  exact ⟨key.1, fun f L d x => key.2.2 (nchunks_pos i) f L d x⟩

end Cert.KernelIdeal.Value
-- ==== Proof.Math.lean ====
module
public import proofs.«01_k».proof.Proof.Core
@[expose] public section
noncomputable section
/-! The extended-real arithmetic that takes one row of the kernel to one row of the reference. -/
namespace Cert.KernelIdeal.Value
open Idealize.ShloMosaic

/-- The change of base the kernel multiplies its scores by. -/
abbrev invLog2 : ℝ := (Real.log 2)⁻¹
theorem invLog2_pos : 0 < invLog2 := inv_pos.mpr (Real.log_pos (by norm_num))

theorem exp2_mul (z : EReal) : Ideal.exp2 (z * (invLog2 : EReal)) = Ideal.exp z := by
  induction z using EReal.rec with
  | bot => rw [EReal.bot_mul_coe_of_pos invLog2_pos]; rfl
  | top => rw [EReal.top_mul_coe_of_pos invLog2_pos]; rfl
  | coe r =>
    rw [← EReal.coe_mul]
    show ((Real.rpow 2 (r * invLog2) : ℝ) : EReal) = ((Real.exp r : ℝ) : EReal)
    congr 1
    show (2 : ℝ) ^ (r * invLog2) = _
    rw [Real.rpow_def_of_pos (by norm_num)]
    congr 1
    have h : Real.log 2 ≠ 0 := (Real.log_pos (by norm_num)).ne'
    show Real.log 2 * (r * (Real.log 2)⁻¹) = r
    field_simp

theorem sub_mul_invLog2 (x y : EReal) : x * (invLog2 : EReal) - y * (invLog2 : EReal) = (x - y) * (invLog2 : EReal) := by
  have hp := invLog2_pos
  induction x using EReal.rec with
  | bot => rw [EReal.bot_mul_coe_of_pos hp, EReal.bot_sub, EReal.bot_sub, EReal.bot_mul_coe_of_pos hp]
  | top =>
    induction y using EReal.rec with
    | bot => rw [EReal.bot_mul_coe_of_pos hp, EReal.top_mul_coe_of_pos hp, EReal.top_sub_bot, EReal.top_mul_coe_of_pos hp]
    | top => rw [EReal.top_mul_coe_of_pos hp, EReal.sub_top, EReal.bot_mul_coe_of_pos hp]
    | coe r => rw [EReal.top_mul_coe_of_pos hp, ← EReal.coe_mul, EReal.top_sub_coe, EReal.top_sub_coe, EReal.top_mul_coe_of_pos hp]
  | coe q =>
    induction y using EReal.rec with
    | bot => rw [EReal.bot_mul_coe_of_pos hp, ← EReal.coe_mul, EReal.coe_sub_bot, EReal.coe_sub_bot, EReal.top_mul_coe_of_pos hp]
    | top => rw [EReal.top_mul_coe_of_pos hp, EReal.sub_top, EReal.sub_top, EReal.bot_mul_coe_of_pos hp]
    | coe r => rw [← EReal.coe_mul, ← EReal.coe_mul, ← EReal.coe_sub, ← EReal.coe_sub, ← EReal.coe_mul, sub_mul]

theorem sup_mul_invLog2 (A : Finset ℕ) (s : ℕ → EReal) : (A.sup fun κ => s κ * (invLog2 : EReal)) = A.sup s * (invLog2 : EReal) := by
  have hm : Monotone fun x : EReal => x * (invLog2 : EReal) := fun x y h =>
    mul_le_mul_of_nonneg_right h (by exact_mod_cast invLog2_pos.le)
  exact (Finset.comp_sup_eq_sup_comp (fun x : EReal => x * (invLog2 : EReal)) (fun x y => hm.map_sup x y) (EReal.bot_mul_coe_of_pos invLog2_pos)).symm

/-- A weight lies between 0 and 1 when its score is at most the maximum. -/
theorem exp_sub_bounds {x m : EReal} (h : x ≤ m) : 0 ≤ Ideal.exp (x - m) ∧ Ideal.exp (x - m) ≤ 1 := by
  induction x using EReal.rec with
  | bot => rw [EReal.bot_sub]; exact ⟨le_refl (0 : EReal), zero_le_one⟩
  | top => rw [top_le_iff.mp h, EReal.sub_top]; exact ⟨le_refl (0 : EReal), zero_le_one⟩
  | coe q =>
    induction m using EReal.rec with
    | bot => exact absurd h (by simp)
    | top => rw [EReal.sub_top]; exact ⟨le_refl (0 : EReal), zero_le_one⟩
    | coe r =>
      rw [← EReal.coe_sub]
      have h' : q ≤ r := by exact_mod_cast h
      refine ⟨?_, ?_⟩
      · show (0 : EReal) ≤ ((Real.exp (q - r) : ℝ) : EReal)
        exact_mod_cast (Real.exp_pos _).le
      · show ((Real.exp (q - r) : ℝ) : EReal) ≤ 1
        exact_mod_cast Real.exp_le_one_iff.mpr (by linarith)

theorem sum_mul_coe {ι : Type} (A : Finset ι) (f : ι → EReal) {r : ℝ} (hr : 0 ≤ r) : (∑ κ ∈ A, f κ) * (r : EReal) = ∑ κ ∈ A, f κ * (r : EReal) := by
  classical
  induction A using Finset.induction_on with
  | empty => simp
  | insert a A ha ih =>
    rw [Finset.sum_insert ha, Finset.sum_insert ha, EReal.right_distrib_of_nonneg_of_ne_top (by exact_mod_cast hr) (EReal.coe_ne_top r), ih]

/-- Dividing the weighted sum once, or each weight before it is summed, is the same. -/
theorem normalise (N : ℕ) (V e : ℕ → EReal) (vs : EReal) (he : ∀ κ < N, 0 ≤ e κ ∧ e κ ≤ 1) :
    (∑ κ ∈ Finset.range N, V κ * e κ) * Ideal.div vs (∑ κ ∈ Finset.range N, e κ)
      = (∑ κ ∈ Finset.range N, V κ * (e κ * Ideal.div 1 (∑ κ ∈ Finset.range N, e κ))) * vs := by
  by_cases hl : (∑ κ ∈ Finset.range N, e κ) = 0
  · have h0 : ∀ κ ∈ Finset.range N, e κ = 0 := by
      rwa [Finset.sum_eq_zero_iff_of_nonneg fun κ hκ => (he κ (Finset.mem_range.mp hκ)).1] at hl
    have hA : (∑ κ ∈ Finset.range N, V κ * e κ) = 0 := Finset.sum_eq_zero fun κ hκ => by rw [h0 κ hκ, mul_zero]
    have hB : (∑ κ ∈ Finset.range N, V κ * (e κ * Ideal.div 1 (∑ κ ∈ Finset.range N, e κ))) = 0 := Finset.sum_eq_zero fun κ hκ => by rw [h0 κ hκ, zero_mul, mul_zero]
    rw [hA, hB, zero_mul, zero_mul]
  · have hN : (∑ κ ∈ Finset.range N, e κ) ≤ ((N : ℝ) : EReal) := by
      refine (Finset.sum_le_sum fun κ hκ => (he κ (Finset.mem_range.mp hκ)).2).trans ?_
      simp
    have hpos : 0 ≤ (∑ κ ∈ Finset.range N, e κ) := Finset.sum_nonneg fun κ hκ => (he κ (Finset.mem_range.mp hκ)).1
    generalize (∑ κ ∈ Finset.range N, e κ) = l at hl hN hpos ⊢
    induction l using EReal.rec with
    | bot => exact absurd hpos (by simp)
    | top => exact absurd hN (not_le.mpr (EReal.coe_lt_top _))
    | coe r =>
      have hr : r ≠ 0 := fun h => hl (by rw [h]; rfl)
      have hr0 : 0 ≤ r := by exact_mod_cast hpos
      rw [Ideal.div_coe hr, Ideal.div_coe hr, one_mul, mul_comm vs, ← mul_assoc, sum_mul_coe _ _ (by positivity)]
      congr 1
      exact Finset.sum_congr rfl fun κ _ => mul_assoc _ _ _

/-- One row of the kernel: weighted values over the weights' sum, in base two, from raw scores `t` scaled by `c`. -/
def kernelRow (N : ℕ) (c vs : EReal) (t V : ℕ → EReal) : EReal :=
  (∑ κ ∈ Finset.range N, V κ * Ideal.exp2 (t κ * c - (Finset.range N).sup fun κ => t κ * c))
    * Ideal.div vs (∑ κ ∈ Finset.range N, Ideal.exp2 (t κ * c - (Finset.range N).sup fun κ => t κ * c))

/-- The same row with the natural exponential and each weight divided. -/
theorem kernelRow_eq (N : ℕ) (c vs : EReal) (t V : ℕ → EReal) :
    kernelRow N (c * (invLog2 : EReal)) vs t V
      = (∑ κ ∈ Finset.range N, V κ * (Ideal.exp (t κ * c - (Finset.range N).sup fun κ => t κ * c)
          * Ideal.div 1 (∑ κ ∈ Finset.range N, Ideal.exp (t κ * c - (Finset.range N).sup fun κ => t κ * c)))) * vs := by
  have hs : ∀ κ, t κ * (c * (invLog2 : EReal)) = t κ * c * (invLog2 : EReal) := fun κ => (mul_assoc _ _ _).symm
  unfold kernelRow
  simp only [hs, sup_mul_invLog2, sub_mul_invLog2, exp2_mul]
  exact normalise N V _ vs fun κ hκ => exp_sub_bounds (Finset.le_sup (f := fun κ => t κ * c) (Finset.mem_range.mpr hκ))

/-- A sum over text keys, then the own frame's keys, then frame 0's keys. -/
theorem sum_text_own (f : ℕ → EReal) : ∑ κ ∈ Finset.range 2048, f κ = ∑ k : Fin 1536, f (512 + k.val) + ∑ k : Fin 512, f k.val := by
  rw [show (2048 : ℕ) = 512 + 1536 from rfl, Finset.sum_range_add, Finset.sum_range (n := 512), Finset.sum_range (n := 1536), add_comm]
theorem sum_text_own_zero (f : ℕ → EReal) : ∑ κ ∈ Finset.range 3584, f κ
    = ∑ k : Fin 1536, f (512 + k.val) + ∑ k : Fin 1536, f (2048 + k.val) + ∑ k : Fin 512, f k.val := by
  rw [show (3584 : ℕ) = 2048 + 1536 from rfl, Finset.sum_range_add, sum_text_own, Finset.sum_range (n := 1536), add_right_comm]
theorem sup_add (f : ℕ → EReal) (a b : ℕ) : (Finset.range (a + b)).sup f = max ((Finset.range a).sup f) (Finset.univ.fold max ⊥ fun k : Fin b => f (a + k.val)) := by
  have h : Finset.range (a + b) = Finset.range a ∪ (Finset.univ : Finset (Fin b)).image (fun r => a + r.val) := by
    ext x
    simp only [Finset.mem_range, Finset.mem_union, Finset.mem_image, Finset.mem_univ, true_and]
    constructor
    · intro hx
      by_cases h : x < a
      · exact Or.inl h
      · exact Or.inr ⟨⟨x - a, by omega⟩, by show a + (x - a) = x; omega⟩
    · rintro (h | ⟨r, rfl⟩)
      · omega
      · have := r.isLt; omega
  rw [h, Finset.sup_union, Finset.sup_image]
  rfl
theorem sup_text (f : ℕ → EReal) : (Finset.range 512).sup f = Finset.univ.fold max ⊥ fun k : Fin 512 => f k.val := by
  have h := sup_add f 0 512
  simp only [Nat.zero_add, Finset.range_zero, Finset.sup_empty] at h
  rw [h]
  exact max_eq_right bot_le
theorem sup_text_own (f : ℕ → EReal) : (Finset.range 2048).sup f
    = max (Finset.univ.fold max ⊥ fun k : Fin 1536 => f (512 + k.val)) (Finset.univ.fold max ⊥ fun k : Fin 512 => f k.val) := by
  rw [show (2048 : ℕ) = 512 + 1536 from rfl, sup_add, sup_text, max_comm]
theorem sup_text_own_zero (f : ℕ → EReal) : (Finset.range 3584).sup f
    = max (max (Finset.univ.fold max ⊥ fun k : Fin 1536 => f (512 + k.val)) (Finset.univ.fold max ⊥ fun k : Fin 1536 => f (2048 + k.val)))
        (Finset.univ.fold max ⊥ fun k : Fin 512 => f k.val) := by
  rw [show (3584 : ℕ) = 2048 + 1536 from rfl, sup_add, sup_text_own, max_right_comm]

/-- One row of the reference, from the three families of scaled scores. -/
def refRow (so sz : Fin 1536 → EReal) (st : Fin 512 → EReal) (vo vz : Fin 1536 → EReal) (vt : Fin 512 → EReal) (vs : EReal) : EReal :=
  let m := max (max (Finset.univ.fold max ⊥ so) (Finset.univ.fold max ⊥ sz)) (Finset.univ.fold max ⊥ st)
  let inv := Ideal.div 1 ((∑ k, Ideal.exp (so k - m)) + (∑ k, Ideal.exp (sz k - m)) + ∑ k, Ideal.exp (st k - m))
  ((∑ k, vo k * (Ideal.exp (so k - m) * inv)) + (∑ k, vz k * (Ideal.exp (sz k - m) * inv)) + ∑ k, vt k * (Ideal.exp (st k - m) * inv)) * vs

/-- Past the first frame the kernel's row over all three families is the reference's. -/
theorem row_later (c vs : EReal) (t V : ℕ → EReal) :
    kernelRow 3584 (c * (invLog2 : EReal)) vs t V
      = refRow (fun k => t (512 + k.val) * c) (fun k => t (2048 + k.val) * c) (fun k => t k.val * c)
          (fun k => V (512 + k.val)) (fun k => V (2048 + k.val)) (fun k => V k.val) vs := by
  rw [kernelRow_eq]
  unfold refRow
  simp only [sum_text_own_zero, sup_text_own_zero]

/-- In the first frame the kernel leaves frame 0's own copy out, and the reference scores it `-∞`. -/
theorem row_first (c vs : EReal) (t V : ℕ → EReal) (vz : Fin 1536 → EReal) :
    kernelRow 2048 (c * (invLog2 : EReal)) vs t V
      = refRow (fun k => t (512 + k.val) * c) (fun _ => ⊥) (fun k => t k.val * c)
          (fun k => V (512 + k.val)) vz (fun k => V k.val) vs := by
  have hb : (Finset.univ.fold max ⊥ fun _ : Fin 1536 => (⊥ : EReal)) = ⊥ :=
    le_bot_iff.mp (Finset.sup_le (f := fun _ : Fin 1536 => (⊥ : EReal)) (s := Finset.univ) fun _ _ => le_refl _)
  have he : ∀ m : EReal, Ideal.exp (⊥ - m) = 0 := fun m => by rw [EReal.bot_sub]; rfl
  rw [kernelRow_eq]
  unfold refRow
  simp only [sum_text_own, sup_text_own, hb, he, zero_mul, mul_zero, Finset.sum_const_zero, add_zero, max_eq_left bot_le]
end Cert.KernelIdeal.Value
-- ==== Proof.Spec.lean ====
module
public import proofs.«01_k».proof.Proof.Math
@[expose] public section
noncomputable section
/-! One element of the spatial attention, as a function of the inputs' elements. -/
namespace Cert.KernelIdeal.Value
open Idealize.ShloMosaic
/-- Row `y` of video frame `f`, and row `y` of the text. -/
def vidRow (f : Fin 21) (y : Fin 1536) : Fin 32768 := ⟨f.val * 1536 + y.val, by omega⟩
def txtRow (y : Fin 512) : Fin 32768 := ⟨32256 + y.val, by omega⟩
/-- The score scale of one head. -/
def scoreScale (qs ks : EReal) : EReal := qs * ks * Ideal.ofBits .f32 1035273459#32
/-- Row `x` of frame `f`, channel `d`, of head `h` of batch `b`: attention over the frame's own keys, frame 0's and the text's. -/
def spec (q k v : Fin 2 → Fin 32768 → Fin 40 → Fin 128 → EReal) (qs ks vs : Fin 2 → Fin 40 → EReal) (b : Fin 2) (f : Fin 21) (x : Fin 1536) (h : Fin 40) (d : Fin 128) : EReal :=
  refRow (fun y => (∑ e, q b (vidRow f x) h e * k b (vidRow f y) h e) * scoreScale (qs b h) (ks b h))
    (fun y => if f = 0 then ⊥ else (∑ e, k b (vidRow 0 y) h e * q b (vidRow f x) h e) * scoreScale (qs b h) (ks b h))
    (fun y => (∑ e, k b (txtRow y) h e * q b (vidRow f x) h e) * scoreScale (qs b h) (ks b h))
    (fun y => v b (vidRow f y) h d) (fun y => v b (vidRow 0 y) h d) (fun y => v b (txtRow y) h d) (vs b h)
theorem refRow_congr {so so' sz sz' vo vo' vz vz' : Fin 1536 → EReal} {st st' vt vt' : Fin 512 → EReal} {vs vs' : EReal} (h1 : ∀ y, so y = so' y) (h2 : ∀ y, sz y = sz' y) (h3 : ∀ y, st y = st' y)
    (h4 : ∀ y, vo y = vo' y) (h5 : ∀ y, vz y = vz' y) (h6 : ∀ y, vt y = vt' y) (h7 : vs = vs') : refRow so sz st vo vz vt vs = refRow so' sz' st' vo' vz' vt' vs' := by
  rw [funext h1, funext h2, funext h3, funext h4, funext h5, funext h6, h7]
end Cert.KernelIdeal.Value
-- ==== Proof.BodyVal.lean ====
module
public import proofs.«01_k».proof.Proof.RunIdeal
public import proofs.«01_k».proof.Proof.Trips
public import proofs.«01_k».proof.Proof.Spec
public import Idealize.ShloMosaic.Lib.WholeRead
@[expose] public section
set_option maxRecDepth 16384
noncomputable section
/-! What one run of the kernel body leaves in the result's block, element by element. -/
namespace Cert.KernelIdeal.Value
open Cert.KernelIdeal Cert.KernelIdeal.Gen
open Idealize.ShloMosaic Idealize.ShloMosaic.TcCoe
open Idealize.SL.Sem

/-- Keys in the order the kernel lines them up: the text's, the frame's own, frame 0's. -/
def keyOf (t : Vec Ideal S1x1x512x128 .fp8e4m3) (o z : Vec Ideal S1x1x1536x128 .fp8e4m3) (κ : ℕ) (d : Fin 128) : EReal :=
  if h : κ < 512 then t (ix4 0 0 ⟨κ, h⟩ d) else if h : κ - 512 < 1536 then o (ix4 0 0 ⟨κ - 512, h⟩ d) else if h : κ - 2048 < 1536 then z (ix4 0 0 ⟨κ - 2048, h⟩ d) else 0
/-- Values in the same order, transposed. -/
def valOf (t : Vec Ideal S1x1x128x512 .fp8e4m3) (o z : Vec Ideal S1x1x128x1536 .fp8e4m3) (d : Fin 128) (κ : ℕ) : EReal :=
  if h : κ < 512 then t (ix4 0 0 d ⟨κ, h⟩) else if h : κ - 512 < 1536 then o (ix4 0 0 d ⟨κ - 512, h⟩) else if h : κ - 2048 < 1536 then z (ix4 0 0 d ⟨κ - 2048, h⟩) else 0
/-- The queries of block `j`. -/
def queryOf (q : Vec Ideal S1x1x1536x128 .fp8e4m3) (j : Fin 3) (c : Fin 512) (e : Fin 128) : EReal := q (ix4 0 0 ⟨512 * j.val + c.val, by omega⟩ e)

theorem pay32_at (vs : EReal) (l : Vec Ideal S1x512 .f32) (a : Vec Ideal S128x512 .f32) (c : Fin 512) (d : Fin 128) :
    k0_pay32 (F := Ideal) vs l a (ix3 0 c d) = a (ix2 d c) * Ideal.div vs (l (ix2 0 c)) := by
  pointwise [k0_pay32]
theorem pay49_at (vs : EReal) (l : Vec Ideal S1x512 .f32) (a : Vec Ideal S128x512 .f32) (c : Fin 512) (d : Fin 128) :
    k0_pay49 (F := Ideal) vs l a (ix3 0 c d) = a (ix2 d c) * Ideal.div vs (l (ix2 0 c)) := by
  pointwise [k0_pay49]
theorem pay41_at (d : Fin 128) (c : Fin 512) : k0_pay41 (F := Ideal) (ix2 d c) = (0 : EReal) := by
  pointwise [k0_pay41]
theorem pay58_at (d : Fin 128) (c : Fin 512) : k0_pay58 (F := Ideal) (ix2 d c) = (0 : EReal) := by
  pointwise [k0_pay58]
theorem pay13_at (x : FVec Ideal S128x512 .fp8e4m3) (d : Fin 128) (r : Fin 512) : k0_pay13 (F := Ideal) x (ix2 d r) = x (ix2 d r) := by
  pointwise [k0_pay13]
theorem pay12_at (x : Vec Ideal S1x1x128x512 .fp8e4m3) (d : Fin 128) (r : Fin 512) : k0_pay12 (F := Ideal) x (ix2 d r) = x (ix4 0 0 d r) := by
  pointwise [k0_pay12]
theorem pay14_at (x : Vec Ideal S1x1x128x1536 .fp8e4m3) (d : Fin 128) (r : Fin 1536) : k0_pay14 (F := Ideal) x (ix2 d r) = x (ix4 0 0 d r) := by
  pointwise [k0_pay14]
theorem pay15_at (x : Vec Ideal S1x1x128x1536 .fp8e4m3) (d : Fin 128) (r : Fin 1536) : k0_pay15 (F := Ideal) x (ix2 d r) = x (ix4 0 0 d r) := by
  pointwise [k0_pay15]

/-- A load of everything is the contents. -/
theorem load_all {s : Shape} {φ : EltTy} {sp : Space} {m : Memref sig .tc sp s φ} (h : m.IsWhole) (X : s.Idx → Elt Ideal φ) {off : Fin s.rank → ℕ} (ho : ∀ a, off a = 0)
    (inb : ∀ a, off a + s.size a ≤ s.size a) : View.readAt (Elt Ideal) m.view (Rect.unit off s.size inb).toLoadRect (h.unread X) = X := by
  funext x
  refine (h.readAt_unread X _ x).trans (congrArg X (funext fun a => Fin.ext ?_))
  show off a + 1 * (x a).val = (x a).val
  rw [ho a]; omega

section
variable {sig' : RefSig} {κ' : Kind} {sp' : Space}
/-- The key buffer after the three copies. -/
theorem keys_at (v : View sig' κ' sp' S3584x128 .fp8e4m3) (f : v.ty.Contents (Elt Ideal)) (t : Vec Ideal S1x1x512x128 .fp8e4m3) (o z : Vec Ideal S1x1x1536x128 .fp8e4m3)
    (i1 : ∀ a, (![2048, 0] : Fin 2 → ℕ) a + S1536x128.size a ≤ S3584x128.size a) (i2 : ∀ a, (![512, 0] : Fin 2 → ℕ) a + S1536x128.size a ≤ S3584x128.size a) (i3 : ∀ a, (![0, 0] : Fin 2 → ℕ) a + S512x128.size a ≤ S3584x128.size a)
    (κ : Fin 3584) (d : Fin 128) :
    v.read (Elt Ideal) (v.writes (Elt Ideal) f [⟨Rect.unit ![2048, 0] S1536x128.size i1, k0_pay11 (F := Ideal) z⟩, ⟨Rect.unit ![512, 0] S1536x128.size i2, k0_pay10 (F := Ideal) o⟩, ⟨Rect.unit ![0, 0] S512x128.size i3, k0_pay9 (F := Ideal) t⟩]) (ix2 κ d)
      = keyOf t o z κ.val d := by
  unfold keyOf
  by_cases h1 : κ.val < 512
  · rw [dif_pos h1]
    refine (View.read_writes_cons_unit_of_not_mem v f i1 _ _ (ix2 κ d) rfl 0 (Or.inl (by show κ.val < 2048; omega))).trans ?_
    refine (View.read_writes_cons_unit_of_not_mem v f i2 _ _ (ix2 κ d) rfl 0 (Or.inl h1)).trans ?_
    refine (View.read_writes_cons_unit_of_mem v f i3 _ _ (ix2 κ d) (ix2 (⟨κ.val, h1⟩ : Fin 512) d) rfl ?_).trans (pay9_at t _ d)
    intro a
    match a with
    | 0 => show κ.val = 0 + κ.val; omega
    | 1 => show d.val = 0 + d.val; omega
  · rw [dif_neg h1]
    by_cases h2 : κ.val - 512 < 1536
    · rw [dif_pos h2]
      refine (View.read_writes_cons_unit_of_not_mem v f i1 _ _ (ix2 κ d) rfl 0 (Or.inl (by show κ.val < 2048; omega))).trans ?_
      refine (View.read_writes_cons_unit_of_mem v f i2 _ _ (ix2 κ d) (ix2 (⟨κ.val - 512, h2⟩ : Fin 1536) d) rfl ?_).trans (pay10_at o _ d)
      intro a
      match a with
      | 0 => show κ.val = 512 + (κ.val - 512); omega
      | 1 => show d.val = 0 + d.val; omega
    · have h3 : κ.val - 2048 < 1536 := by omega
      rw [dif_neg h2, dif_pos h3]
      refine (View.read_writes_cons_unit_of_mem v f i1 _ _ (ix2 κ d) (ix2 (⟨κ.val - 2048, h3⟩ : Fin 1536) d) rfl ?_).trans (pay11_at z _ d)
      intro a
      match a with
      | 0 => show κ.val = 2048 + (κ.val - 2048); omega
      | 1 => show d.val = 0 + d.val; omega
/-- The value buffer after the three copies. -/
theorem values_at (v : View sig' κ' sp' S128x3584 .fp8e4m3) (f : v.ty.Contents (Elt Ideal)) (t : Vec Ideal S1x1x128x512 .fp8e4m3) (o z : Vec Ideal S1x1x128x1536 .fp8e4m3)
    (i1 : ∀ a, (![0, 2048] : Fin 2 → ℕ) a + S128x1536.size a ≤ S128x3584.size a) (i2 : ∀ a, (![0, 512] : Fin 2 → ℕ) a + S128x1536.size a ≤ S128x3584.size a) (i3 : ∀ a, (![0, 0] : Fin 2 → ℕ) a + S128x512.size a ≤ S128x3584.size a)
    (d : Fin 128) (κ : Fin 3584) :
    v.read (Elt Ideal) (v.writes (Elt Ideal) f [⟨Rect.unit ![0, 2048] S128x1536.size i1, k0_pay15 (F := Ideal) z⟩, ⟨Rect.unit ![0, 512] S128x1536.size i2, k0_pay14 (F := Ideal) o⟩, ⟨Rect.unit ![0, 0] S128x512.size i3, k0_pay13 (F := Ideal) (k0_pay12 t)⟩]) (ix2 d κ)
      = valOf t o z d κ.val := by
  unfold valOf
  by_cases h1 : κ.val < 512
  · rw [dif_pos h1]
    refine (View.read_writes_cons_unit_of_not_mem v f i1 _ _ (ix2 d κ) rfl 1 (Or.inl (by show κ.val < 2048; omega))).trans ?_
    refine (View.read_writes_cons_unit_of_not_mem v f i2 _ _ (ix2 d κ) rfl 1 (Or.inl h1)).trans ?_
    refine (View.read_writes_cons_unit_of_mem v f i3 _ _ (ix2 d κ) (ix2 d (⟨κ.val, h1⟩ : Fin 512)) rfl ?_).trans ((pay13_at _ d _).trans (pay12_at t d _))
    intro a
    match a with
    | 0 => show d.val = 0 + d.val; omega
    | 1 => show κ.val = 0 + κ.val; omega
  · rw [dif_neg h1]
    by_cases h2 : κ.val - 512 < 1536
    · rw [dif_pos h2]
      refine (View.read_writes_cons_unit_of_not_mem v f i1 _ _ (ix2 d κ) rfl 1 (Or.inl (by show κ.val < 2048; omega))).trans ?_
      refine (View.read_writes_cons_unit_of_mem v f i2 _ _ (ix2 d κ) (ix2 d (⟨κ.val - 512, h2⟩ : Fin 1536)) rfl ?_).trans (pay14_at o d _)
      intro a
      match a with
      | 0 => show d.val = 0 + d.val; omega
      | 1 => show κ.val = 512 + (κ.val - 512); omega
    · have h3 : κ.val - 2048 < 1536 := by omega
      rw [dif_neg h2, dif_pos h3]
      refine (View.read_writes_cons_unit_of_mem v f i1 _ _ (ix2 d κ) (ix2 d (⟨κ.val - 2048, h3⟩ : Fin 1536)) rfl ?_).trans (pay15_at z d _)
      intro a
      match a with
      | 0 => show d.val = 0 + d.val; omega
      | 1 => show κ.val = 2048 + (κ.val - 2048); omega
/-- The accumulator once zeroed. -/
theorem zeroed_at (v : View sig' κ' sp' S128x512 .f32) (f : v.ty.Contents (Elt Ideal)) (inb : ∀ a, (![0, 0] : Fin 2 → ℕ) a + S128x512.size a ≤ S128x512.size a)
    (L : List (View.Piece (Elt Ideal) S128x512 .f32)) (w : Vec Ideal S128x512 .f32) (hw : ∀ d c, w (ix2 d c) = (0 : EReal)) (d : Fin 128) (c : Fin 512) :
    v.read (Elt Ideal) (v.writes (Elt Ideal) f (⟨Rect.unit ![0, 0] S128x512.size inb, w⟩ :: L)) (ix2 d c) = (0 : EReal) := by
  refine (View.read_writes_cons_unit_of_mem v f inb _ _ (ix2 d c) (ix2 d c) rfl ?_).trans (hw d c)
  intro a
  match a with
  | 0 => show d.val = 0 + d.val; omega
  | 1 => show c.val = 0 + c.val; omega
/-- The accumulator loaded whole. -/
theorem acc_load (v : View sig' κ' sp' S128x512 .f32) (G : v.ty.Contents (Elt Ideal)) (inb : ∀ a, (![0, 0] : Fin 2 → ℕ) a + S128x512.size a ≤ S128x512.size a) (d : Fin 128) (c : Fin 512) :
    v.readAt (Elt Ideal) (Rect.unit (s := S128x512) ![0, 0] S128x512.size inb).toLoadRect G (ix2 d c) = v.read (Elt Ideal) G (ix2 d c) := by
  show v.read (Elt Ideal) G ((Rect.unit (s := S128x512) ![0, 0] S128x512.size inb).idx (ix2 d c)) = _
  congr 1
  funext a
  match a with
  | 0 => exact Fin.ext (by show 0 + 1 * d.val = d.val; omega)
  | 1 => exact Fin.ext (by show 0 + 1 * c.val = c.val; omega)
end

theorem finish {a A l L vs : EReal} (h1 : a = A) (h2 : l = L) : a * Ideal.div vs l = A * Ideal.div vs L := by rw [h1, h2]
/-- One query's row out of the two passes. -/
theorem row_eq (N : ℕ) (c2 vs : EReal) (K : ℕ → Fin 128 → EReal) (Q : Fin 512 → Fin 128 → EReal) (V : Fin 128 → ℕ → EReal) (d : Fin 128) (c : Fin 512) :
    accOf N V (eOf (scoreOf c2 K Q) (maxOf N (scoreOf c2 K Q))) d c * Ideal.div vs (lOf N (eOf (scoreOf c2 K Q) (maxOf N (scoreOf c2 K Q))) c)
      = kernelRow N c2 vs (fun κ => ∑ e, K κ e * Q c e) (V d) := rfl

section
variable (c : Dev nD) (i : grid0.Coords) (arg4 : Memref sig .tc .smem S2x40 .f32) (harg4 : arg4.IsWhole) (arg5 : Memref sig .tc .smem S2x40 .f32) (harg5 : arg5.IsWhole) (arg6 : Memref sig .tc .vmem S1x1x1536x128 .fp8e4m3) (harg6 : arg6.IsWhole) (arg7 : Memref sig .tc .vmem S1x1x1536x128 .fp8e4m3) (harg7 : arg7.IsWhole) (arg8 : Memref sig .tc .vmem S1x1x1536x128 .fp8e4m3) (harg8 : arg8.IsWhole) (arg9 : Memref sig .tc .vmem S1x1x512x128 .fp8e4m3) (harg9 : arg9.IsWhole) (arg10 : Memref sig .tc .vmem S1x1x128x1536 .fp8e4m3) (harg10 : arg10.IsWhole) (arg11 : Memref sig .tc .vmem S1x1x128x1536 .fp8e4m3) (harg11 : arg11.IsWhole) (arg12 : Memref sig .tc .vmem S1x1x128x512 .fp8e4m3) (harg12 : arg12.IsWhole) (arg13 : Memref sig .tc .vmem S1x1536x128 .bf16) (harg13 : arg13.IsWhole) (arg14 : Memref sig .tc .vmem S3584x128 .fp8e4m3) (harg14 : arg14.IsWhole) (arg15 : Memref sig .tc .vmem S128x3584 .fp8e4m3) (harg15 : arg15.IsWhole) (arg16 : Memref sig .tc .vmem S3584x512 .f32) (harg16 : arg16.IsWhole) (arg17 : Memref sig .tc .vmem S128x512 .f32) (harg17 : arg17.IsWhole)
    (x0 : Vec Ideal S2x40 .f32) (x1 : Vec Ideal S2x40 .f32) (x2 : Vec Ideal S1x1x1536x128 .fp8e4m3) (x3 : Vec Ideal S1x1x1536x128 .fp8e4m3) (x4 : Vec Ideal S1x1x1536x128 .fp8e4m3) (x5 : Vec Ideal S1x1x512x128 .fp8e4m3) (x6 : Vec Ideal S1x1x128x1536 .fp8e4m3) (x7 : Vec Ideal S1x1x128x1536 .fp8e4m3) (x8 : Vec Ideal S1x1x128x512 .fp8e4m3) (xt0 : TbBuf0 (F := Ideal) c tbM0_0) (k0_hw1 : k0_chk1 i (tbM0_0.view.readAt (Elt Ideal) (Rect.unit (s := S40) (k0_off1 i) S1.size (k0_off1_inb i)).toLoadRect xt0 (Shape.Idx.first (numel1_S1.symm ▸ Nat.one_pos))))
theorem hK (κ : Fin 3584) (d : Fin 128) : arg14.view.read (Elt Ideal) (arg14.view.writes (Elt Ideal) arg14.view.junk (kernelRun0_A.sl.HS0_3 (F := Ideal) c arg7 harg7 arg8 harg8 arg9 harg9 x3 x4 x5)) (ix2 κ d) = keyOf x5 x3 x4 κ.val d := by
  unfold kernelRun0_A.sl.HS0_3
  rw [load_all harg7 x3 (by decide), load_all harg8 x4 (by decide), load_all harg9 x5 (by decide)]
  exact keys_at _ _ _ _ _ _ _ _ κ d
theorem hV (d : Fin 128) (κ : Fin 3584) : arg15.view.read (Elt Ideal) (arg15.view.writes (Elt Ideal) arg15.view.junk (kernelRun0_A.sl.HS1_3 (F := Ideal) c arg10 harg10 arg11 harg11 arg12 harg12 x6 x7 x8)) (ix2 d κ) = valOf x8 x6 x7 d κ.val := by
  unfold kernelRun0_A.sl.HS1_3 kernelRun0_A.sl.r_4
  rw [load_all harg10 x6 (by decide), load_all harg11 x7 (by decide), load_all harg12 x8 (by decide)]
  exact values_at _ _ _ _ _ _ _ _ d κ
theorem hQ0 (a : Fin 512) (e : Fin 128) : (View.readAt (Elt Ideal) arg6.view (Rect.unit (s := S1x1x1536x128) ![0, 0, 0, 0] S1x1x512x128.size inb_S1x1x1536x128_S1x1x512x128_0_0_0_0).toLoadRect (harg6.unread x2)) (ix4 0 0 a e) = queryOf x2 0 a e := by
  refine (harg6.readAt_unread x2 _ _).trans (congrArg x2 (funext fun k => Fin.ext ?_))
  match k with
  | 0 => rfl
  | 1 => rfl
  | 2 => show 0 + 1 * a.val = 512 * 0 + a.val; omega
  | 3 => show 0 + 1 * e.val = e.val; omega
theorem hQ1 (a : Fin 512) (e : Fin 128) : (View.readAt (Elt Ideal) arg6.view (Rect.unit (s := S1x1x1536x128) ![0, 0, 512, 0] S1x1x512x128.size inb_S1x1x1536x128_S1x1x512x128_0_0_512_0).toLoadRect (harg6.unread x2)) (ix4 0 0 a e) = queryOf x2 1 a e := by
  refine (harg6.readAt_unread x2 _ _).trans (congrArg x2 (funext fun k => Fin.ext ?_))
  match k with
  | 0 => rfl
  | 1 => rfl
  | 2 => show 512 + 1 * a.val = 512 * 1 + a.val; omega
  | 3 => show 0 + 1 * e.val = e.val; omega
theorem hQ2 (a : Fin 512) (e : Fin 128) : (View.readAt (Elt Ideal) arg6.view (Rect.unit (s := S1x1x1536x128) ![0, 0, 1024, 0] S1x1x512x128.size inb_S1x1x1536x128_S1x1x512x128_0_0_1024_0).toLoadRect (harg6.unread x2)) (ix4 0 0 a e) = queryOf x2 2 a e := by
  refine (harg6.readAt_unread x2 _ _).trans (congrArg x2 (funext fun k => Fin.ext ?_))
  match k with
  | 0 => rfl
  | 1 => rfl
  | 2 => show 1024 + 1 * a.val = 512 * 2 + a.val; omega
  | 3 => show 0 + 1 * e.val = e.val; omega
/-- What one run leaves in the result's block: the kernel's row of every query. -/
theorem body_at (fs2 : BufTy.Contents (Elt Ideal) arg16.view.ty) (f : BufTy.Contents (Elt Ideal) arg13.view.ty) (x : Fin 1536) (d : Fin 128) :
    arg13.view.read (Elt Ideal) (arg13.view.writes (Elt Ideal) f ((kernelRun0_A (F := Ideal) c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 k0_hw1).val fs2)) (ix3 0 x d)
      = kernelRow (nkeys i) (kernelRun0_A.sl.r_3 (F := Ideal) c i arg4 harg4 x0 xt0 k0_hw1) (kernelRun0_A.sl.r_2 (F := Ideal) c i arg5 harg5 x1 xt0 k0_hw1) (fun κ => ∑ e, keyOf x5 x3 x4 κ e * x2 (ix4 0 0 x e)) (valOf x8 x6 x7 d) := by
  unfold kernelRun0_A
  dsimp only
  by_cases h2 : 1024 ≤ x.val
  · refine (View.read_writes_cons_unit_of_mem arg13.view f _ _ _ (ix3 0 x d) (ix3 0 (⟨x.val - 1024, by omega⟩ : Fin 512) d) rfl ?_).trans ?_
    · intro a
      match a with
      | 0 => rfl
      | 1 => show x.val = 1024 + (x.val - 1024); omega
      | 2 => show d.val = 0 + d.val; omega
    refine (pay7_at _ _ _ _ _).trans ?_
    have SC := score_t9 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.r_3 (F := Ideal) c i arg4 harg4 x0 xt0 k0_hw1) (kernelRun0_A.sl.r_2 (F := Ideal) c i arg5 harg5 x1 xt0 k0_hw1) (kernelRun0_A.sl.v40 i) (kernelRun0_A.sl.r_6 (F := Ideal) c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x8 xt0 k0_hw1) k0_pay42 (0#32) (kernelRun0_A.sl.v88 i) (1#32) (View.readAt (Elt Ideal) arg6.view (Rect.unit (s := S1x1x1536x128) ![0, 0, 1024, 0] S1x1x512x128.size inb_S1x1x1536x128_S1x1x512x128_0_0_1024_0).toLoadRect (harg6.unread x2)) (arg14.view.writes (Elt Ideal) arg14.view.junk (kernelRun0_A.sl.HS0_3 (F := Ideal) c arg7 harg7 arg8 harg8 arg9 harg9 x3 x4 x5)) (keyOf x5 x3 x4) (queryOf x2 2) (hK c arg7 harg7 arg8 harg8 arg9 harg9 arg14 x3 x4 x5) (hQ2 arg6 harg6 x2)
    have hx : queryOf x2 2 ⟨x.val - 1024, by omega⟩ = fun e => x2 (ix4 0 0 x e) := funext fun e => congrArg (fun y => x2 (ix4 0 0 y e)) (Fin.ext (by show 512 * 2 + (x.val - 1024) = x.val; omega))
    refine Eq.trans ?_ ((row_eq (nkeys i) (kernelRun0_A.sl.r_3 (F := Ideal) c i arg4 harg4 x0 xt0 k0_hw1) (kernelRun0_A.sl.r_2 (F := Ideal) c i arg5 harg5 x1 xt0 k0_hw1) (keyOf x5 x3 x4) (queryOf x2 2) (valOf x8 x6 x7) d ⟨x.val - 1024, by omega⟩).trans (by rw [hx]))
    refine finish ((acc_load arg17.view _ _ d _).trans ?_) ?_
    · refine (gather_t11 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.r_7 (F := Ideal) c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x8 xt0 k0_hw1) (arg15.view.writes (Elt Ideal) arg15.view.junk (kernelRun0_A.sl.HS1_3 (F := Ideal) c arg10 harg10 arg11 harg11 arg12 harg12 x6 x7 x8)) _ _ _ (valOf x8 x6 x7) (scoreOf (kernelRun0_A.sl.r_3 (F := Ideal) c i arg4 harg4 x0 xt0 k0_hw1) (keyOf x5 x3 x4) (queryOf x2 2)) (maxOf (nkeys i) (scoreOf (kernelRun0_A.sl.r_3 (F := Ideal) c i arg4 harg4 x0 xt0 k0_hw1) (keyOf x5 x3 x4) (queryOf x2 2))) ?_ (hV c arg10 harg10 arg11 harg11 arg12 harg12 arg15 x6 x7 x8) ?_ SC.1).2 _ _ d _
      · intro κ a h
        exact SC.2 fs2 _ κ a h
      · intro d a
        exact zeroed_at _ _ _ _ _ pay58_at d a
    · refine (gather_t11 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.r_7 (F := Ideal) c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x8 xt0 k0_hw1) (arg15.view.writes (Elt Ideal) arg15.view.junk (kernelRun0_A.sl.HS1_3 (F := Ideal) c arg10 harg10 arg11 harg11 arg12 harg12 x6 x7 x8)) _ _ _ (valOf x8 x6 x7) (scoreOf (kernelRun0_A.sl.r_3 (F := Ideal) c i arg4 harg4 x0 xt0 k0_hw1) (keyOf x5 x3 x4) (queryOf x2 2)) (maxOf (nkeys i) (scoreOf (kernelRun0_A.sl.r_3 (F := Ideal) c i arg4 harg4 x0 xt0 k0_hw1) (keyOf x5 x3 x4) (queryOf x2 2))) ?_ (hV c arg10 harg10 arg11 harg11 arg12 harg12 arg15 x6 x7 x8) ?_ SC.1).1 _
      · intro κ a h
        exact SC.2 fs2 _ κ a h
      · intro d a
        exact zeroed_at _ _ _ _ _ pay58_at d a
  by_cases h1 : 512 ≤ x.val
  · refine (View.read_writes_cons_unit_of_not_mem arg13.view f _ _ _ (ix3 0 x d) rfl 1 (Or.inl (by show x.val < 1024; omega))).trans ?_
    refine (View.read_writes_cons_unit_of_mem arg13.view f _ _ _ (ix3 0 x d) (ix3 0 (⟨x.val - 512, by omega⟩ : Fin 512) d) rfl ?_).trans ?_
    · intro a
      match a with
      | 0 => rfl
      | 1 => show x.val = 512 + (x.val - 512); omega
      | 2 => show d.val = 0 + d.val; omega
    refine (pay49_at _ _ _ _ _).trans ?_
    have SC := score_t5 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.r_3 (F := Ideal) c i arg4 harg4 x0 xt0 k0_hw1) (kernelRun0_A.sl.r_2 (F := Ideal) c i arg5 harg5 x1 xt0 k0_hw1) (kernelRun0_A.sl.v40 i) (kernelRun0_A.sl.r_5 (F := Ideal) c i arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x8 xt0 k0_hw1) k0_pay25 (View.readAt (Elt Ideal) arg6.view (Rect.unit (s := S1x1x1536x128) ![0, 0, 512, 0] S1x1x512x128.size inb_S1x1x1536x128_S1x1x512x128_0_0_512_0).toLoadRect (harg6.unread x2)) (arg14.view.writes (Elt Ideal) arg14.view.junk (kernelRun0_A.sl.HS0_3 (F := Ideal) c arg7 harg7 arg8 harg8 arg9 harg9 x3 x4 x5)) (keyOf x5 x3 x4) (queryOf x2 1) (hK c arg7 harg7 arg8 harg8 arg9 harg9 arg14 x3 x4 x5) (hQ1 arg6 harg6 x2)
    have hx : queryOf x2 1 ⟨x.val - 512, by omega⟩ = fun e => x2 (ix4 0 0 x e) := funext fun e => congrArg (fun y => x2 (ix4 0 0 y e)) (Fin.ext (by show 512 * 1 + (x.val - 512) = x.val; omega))
    refine Eq.trans ?_ ((row_eq (nkeys i) (kernelRun0_A.sl.r_3 (F := Ideal) c i arg4 harg4 x0 xt0 k0_hw1) (kernelRun0_A.sl.r_2 (F := Ideal) c i arg5 harg5 x1 xt0 k0_hw1) (keyOf x5 x3 x4) (queryOf x2 1) (valOf x8 x6 x7) d ⟨x.val - 512, by omega⟩).trans (by rw [hx]))
    refine finish ((acc_load arg17.view _ _ d _).trans ?_) ?_
    · refine (gather_t7 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.r_3 (F := Ideal) c i arg4 harg4 x0 xt0 k0_hw1) (kernelRun0_A.sl.r_2 (F := Ideal) c i arg5 harg5 x1 xt0 k0_hw1) (kernelRun0_A.sl.v40 i) (kernelRun0_A.sl.r_6 (F := Ideal) c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x8 xt0 k0_hw1) k0_pay42 (0#32) (kernelRun0_A.sl.v88 i) (1#32) (arg15.view.writes (Elt Ideal) arg15.view.junk (kernelRun0_A.sl.HS1_3 (F := Ideal) c arg10 harg10 arg11 harg11 arg12 harg12 x6 x7 x8)) _ _ _ (valOf x8 x6 x7) (scoreOf (kernelRun0_A.sl.r_3 (F := Ideal) c i arg4 harg4 x0 xt0 k0_hw1) (keyOf x5 x3 x4) (queryOf x2 1)) (maxOf (nkeys i) (scoreOf (kernelRun0_A.sl.r_3 (F := Ideal) c i arg4 harg4 x0 xt0 k0_hw1) (keyOf x5 x3 x4) (queryOf x2 1))) ?_ (hV c arg10 harg10 arg11 harg11 arg12 harg12 arg15 x6 x7 x8) ?_ SC.1).2 _ _ d _
      · intro κ a h
        exact SC.2 fs2 _ κ a h
      · intro d a
        exact zeroed_at _ _ _ _ _ pay41_at d a
    · refine (gather_t7 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.r_3 (F := Ideal) c i arg4 harg4 x0 xt0 k0_hw1) (kernelRun0_A.sl.r_2 (F := Ideal) c i arg5 harg5 x1 xt0 k0_hw1) (kernelRun0_A.sl.v40 i) (kernelRun0_A.sl.r_6 (F := Ideal) c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x8 xt0 k0_hw1) k0_pay42 (0#32) (kernelRun0_A.sl.v88 i) (1#32) (arg15.view.writes (Elt Ideal) arg15.view.junk (kernelRun0_A.sl.HS1_3 (F := Ideal) c arg10 harg10 arg11 harg11 arg12 harg12 x6 x7 x8)) _ _ _ (valOf x8 x6 x7) (scoreOf (kernelRun0_A.sl.r_3 (F := Ideal) c i arg4 harg4 x0 xt0 k0_hw1) (keyOf x5 x3 x4) (queryOf x2 1)) (maxOf (nkeys i) (scoreOf (kernelRun0_A.sl.r_3 (F := Ideal) c i arg4 harg4 x0 xt0 k0_hw1) (keyOf x5 x3 x4) (queryOf x2 1))) ?_ (hV c arg10 harg10 arg11 harg11 arg12 harg12 arg15 x6 x7 x8) ?_ SC.1).1 _
      · intro κ a h
        exact SC.2 fs2 _ κ a h
      · intro d a
        exact zeroed_at _ _ _ _ _ pay41_at d a
  refine (View.read_writes_cons_unit_of_not_mem arg13.view f _ _ _ (ix3 0 x d) rfl 1 (Or.inl (by show x.val < 1024; omega))).trans ?_
  refine (View.read_writes_cons_unit_of_not_mem arg13.view f _ _ _ (ix3 0 x d) rfl 1 (Or.inl (by show x.val < 512; omega))).trans ?_
  refine (View.read_writes_cons_unit_of_mem arg13.view f _ _ _ (ix3 0 x d) (ix3 0 (⟨x.val - 0, by omega⟩ : Fin 512) d) rfl ?_).trans ?_
  · intro a
    match a with
    | 0 => rfl
    | 1 => show x.val = 0 + (x.val - 0); omega
    | 2 => show d.val = 0 + d.val; omega
  refine (pay32_at _ _ _ _ _).trans ?_
  have SC := score_t1 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (kernelRun0_A.sl.r_3 (F := Ideal) c i arg4 harg4 x0 xt0 k0_hw1) (kernelRun0_A.sl.r_4 (F := Ideal) c arg12 harg12 x8) (View.readAt (Elt Ideal) arg6.view (Rect.unit (s := S1x1x1536x128) ![0, 0, 0, 0] S1x1x512x128.size inb_S1x1x1536x128_S1x1x512x128_0_0_0_0).toLoadRect (harg6.unread x2)) (arg14.view.writes (Elt Ideal) arg14.view.junk (kernelRun0_A.sl.HS0_3 (F := Ideal) c arg7 harg7 arg8 harg8 arg9 harg9 x3 x4 x5)) (keyOf x5 x3 x4) (queryOf x2 0) (hK c arg7 harg7 arg8 harg8 arg9 harg9 arg14 x3 x4 x5) (hQ0 arg6 harg6 x2)
  have hx : queryOf x2 0 ⟨x.val - 0, by omega⟩ = fun e => x2 (ix4 0 0 x e) := funext fun e => congrArg (fun y => x2 (ix4 0 0 y e)) (Fin.ext (by show 512 * 0 + (x.val - 0) = x.val; omega))
  refine Eq.trans ?_ ((row_eq (nkeys i) (kernelRun0_A.sl.r_3 (F := Ideal) c i arg4 harg4 x0 xt0 k0_hw1) (kernelRun0_A.sl.r_2 (F := Ideal) c i arg5 harg5 x1 xt0 k0_hw1) (keyOf x5 x3 x4) (queryOf x2 0) (valOf x8 x6 x7) d ⟨x.val - 0, by omega⟩).trans (by rw [hx]))
  refine finish ((acc_load arg17.view _ _ d _).trans ?_) ?_
  · refine (gather_t3 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.r_3 (F := Ideal) c i arg4 harg4 x0 xt0 k0_hw1) (kernelRun0_A.sl.r_2 (F := Ideal) c i arg5 harg5 x1 xt0 k0_hw1) (kernelRun0_A.sl.v40 i) (kernelRun0_A.sl.r_5 (F := Ideal) c i arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x8 xt0 k0_hw1) k0_pay25 (arg15.view.writes (Elt Ideal) arg15.view.junk (kernelRun0_A.sl.HS1_3 (F := Ideal) c arg10 harg10 arg11 harg11 arg12 harg12 x6 x7 x8)) _ _ _ (valOf x8 x6 x7) (scoreOf (kernelRun0_A.sl.r_3 (F := Ideal) c i arg4 harg4 x0 xt0 k0_hw1) (keyOf x5 x3 x4) (queryOf x2 0)) (maxOf (nkeys i) (scoreOf (kernelRun0_A.sl.r_3 (F := Ideal) c i arg4 harg4 x0 xt0 k0_hw1) (keyOf x5 x3 x4) (queryOf x2 0))) ?_ (hV c arg10 harg10 arg11 harg11 arg12 harg12 arg15 x6 x7 x8) ?_ SC.1).2 _ _ d _
    · intro κ a h
      have h' := SC.2 fs2 [] κ a h
      rw [List.append_nil] at h'
      exact h'
    · intro d a
      exact zeroed_at _ _ _ _ _ pay24_at d a
  · refine (gather_t3 Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 (kernelRun0_A.sl.r_3 (F := Ideal) c i arg4 harg4 x0 xt0 k0_hw1) (kernelRun0_A.sl.r_2 (F := Ideal) c i arg5 harg5 x1 xt0 k0_hw1) (kernelRun0_A.sl.v40 i) (kernelRun0_A.sl.r_5 (F := Ideal) c i arg4 harg4 arg5 harg5 arg6 harg6 arg7 harg7 arg8 harg8 arg9 harg9 arg10 harg10 arg11 harg11 arg12 harg12 arg13 harg13 arg14 harg14 arg15 harg15 arg16 harg16 arg17 harg17 x0 x2 x3 x4 x5 x8 xt0 k0_hw1) k0_pay25 (arg15.view.writes (Elt Ideal) arg15.view.junk (kernelRun0_A.sl.HS1_3 (F := Ideal) c arg10 harg10 arg11 harg11 arg12 harg12 x6 x7 x8)) _ _ _ (valOf x8 x6 x7) (scoreOf (kernelRun0_A.sl.r_3 (F := Ideal) c i arg4 harg4 x0 xt0 k0_hw1) (keyOf x5 x3 x4) (queryOf x2 0)) (maxOf (nkeys i) (scoreOf (kernelRun0_A.sl.r_3 (F := Ideal) c i arg4 harg4 x0 xt0 k0_hw1) (keyOf x5 x3 x4) (queryOf x2 0))) ?_ (hV c arg10 harg10 arg11 harg11 arg12 harg12 arg15 x6 x7 x8) ?_ SC.1).1 _
    · intro κ a h
      have h' := SC.2 fs2 [] κ a h
      rw [List.append_nil] at h'
      exact h'
    · intro d a
      exact zeroed_at _ _ _ _ _ pay24_at d a
end
end Cert.KernelIdeal.Value
-- ==== Proof.HostIdeal.lean ====
/- What the spatial kernel's windows hold at each grid point, element by element, in the arguments' elements. -/
module

public import proofs.«01_k».proof.Proof.HeadsIdeal
public import proofs.«01_k».proof.Proof.Spec
public import Idealize.ShloMosaic.Lib.Claim
public import Idealize.ShloMosaic.Lib.Pipeline.ValueKit

@[expose] public section

set_option maxRecDepth 16384

noncomputable section

namespace Cert.KernelIdeal.Value
open Cert.KernelIdeal Cert.KernelIdeal.Gen
open Idealize.ShloMosaic Idealize.ShloMosaic.TcCoe Idealize.ShloMosaic.Tactic

variable (m : (ℓ : Loc nD τ sig) → Buf (Elt Ideal) ℓ)

/-! ## The arrays the windows read, as the host leaves them -/

abbrev argQ (c : Dev nD) : Vec Ideal S2x32768x40x128 .fp8e4m3 := m ((c : Thread nD τ).loc main_arg0)
abbrev argK (c : Dev nD) : Vec Ideal S2x32768x40x128 .fp8e4m3 := m ((c : Thread nD τ).loc main_arg1)
abbrev argV (c : Dev nD) : Vec Ideal S2x32768x40x128 .fp8e4m3 := m ((c : Thread nD τ).loc main_arg2)
abbrev argQs (c : Dev nD) : Vec Ideal S2x40 .f32 := m ((c : Thread nD τ).loc main_arg3)
abbrev argKs (c : Dev nD) : Vec Ideal S2x40 .f32 := m ((c : Thread nD τ).loc main_arg4)
abbrev argVs (c : Dev nD) : Vec Ideal S2x40 .f32 := m ((c : Thread nD τ).loc main_arg5)

theorem V_v2 (c : Dev nD) : V m c main_v2 = mulf (mulf (argQs m c) (argKs m c)) (broadcastInDim S2x40 ![] bcast_S_S2x40 (constant (F := Ideal) S_ .f32 0x3DB504F3#32)) := by
  unfold V; after_results_simp
theorem V_v6 (c : Dev nD) : V m c main_v6 = extractStridedSlice S2x40x32256x128 ![0, 0, 0, 0] (transpose S2x40x32768x128 [0, 2, 1, 3] (argQ m c) transposes_S2x32768x40x128_S2x40x32768x128_0_2_1_3) slices_S2x40x32768x128_S2x40x32256x128_0_0_0_0 := by
  unfold V; after_results_simp
theorem V_v7 (c : Dev nD) : V m c main_v7 = extractStridedSlice S2x40x32256x128 ![0, 0, 0, 0] (transpose S2x40x32768x128 [0, 2, 1, 3] (argK m c) transposes_S2x32768x40x128_S2x40x32768x128_0_2_1_3) slices_S2x40x32768x128_S2x40x32256x128_0_0_0_0 := by
  unfold V; after_results_simp
theorem V_v8 (c : Dev nD) : V m c main_v8 = extractStridedSlice S2x40x1536x128 ![0, 0, 0, 0] (transpose S2x40x32768x128 [0, 2, 1, 3] (argK m c) transposes_S2x32768x40x128_S2x40x32768x128_0_2_1_3) slices_S2x40x32768x128_S2x40x1536x128_0_0_0_0 := by
  unfold V; after_results_simp
theorem V_v4 (c : Dev nD) : V m c main_v4 = transpose S2x40x32768x128 [0, 2, 1, 3] (argK m c) transposes_S2x32768x40x128_S2x40x32768x128_0_2_1_3 := by
  unfold V; after_results_simp
theorem V_v9 (c : Dev nD) : V m c main_v9 = extractStridedSlice S2x40x128x32256 ![0, 0, 0, 0] (transpose S2x40x128x32768 [0, 2, 3, 1] (argV m c) transposes_S2x32768x40x128_S2x40x128x32768_0_2_3_1) slices_S2x40x128x32768_S2x40x128x32256_0_0_0_0 := by
  unfold V; after_results_simp
theorem V_v10 (c : Dev nD) : V m c main_v10 = extractStridedSlice S2x40x128x1536 ![0, 0, 0, 0] (transpose S2x40x128x32768 [0, 2, 3, 1] (argV m c) transposes_S2x32768x40x128_S2x40x128x32768_0_2_3_1) slices_S2x40x128x32768_S2x40x128x1536_0_0_0_0 := by
  unfold V; after_results_simp
theorem V_v5 (c : Dev nD) : V m c main_v5 = transpose S2x40x128x32768 [0, 2, 3, 1] (argV m c) transposes_S2x32768x40x128_S2x40x128x32768_0_2_3_1 := by
  unfold V; after_results_simp

/-! The same, at an index. -/

theorem v2_at (c : Dev nD) (b : Fin 2) (h : Fin 40) : V m c main_v2 (ix2 b h) = scoreScale (argQs m c (ix2 b h)) (argKs m c (ix2 b h)) := by
  rw [V_v2]; pointwise [scoreScale]
theorem rows_at {n : ℕ} (X : Vec Ideal S2x32768x40x128 .fp8e4m3) (hs : Shape.Slices S2x40x32768x128 ![0, 0, 0, 0] (⟨4, ![2, 40, n, 128]⟩ : Shape)) (b : Fin 2) (h : Fin 40) (y : Fin n) (hy : y.val < 32768) (e : Fin 128) :
    extractStridedSlice (⟨4, ![2, 40, n, 128]⟩ : Shape) ![0, 0, 0, 0] (transpose S2x40x32768x128 [0, 2, 1, 3] X transposes_S2x32768x40x128_S2x40x32768x128_0_2_1_3) hs (ix4 b h y e) = X (ix4 b ⟨y.val, hy⟩ h e) := by
  pointwise
theorem cols_at {n : ℕ} (X : Vec Ideal S2x32768x40x128 .fp8e4m3) (hs : Shape.Slices S2x40x128x32768 ![0, 0, 0, 0] (⟨4, ![2, 40, 128, n]⟩ : Shape)) (b : Fin 2) (h : Fin 40) (y : Fin n) (hy : y.val < 32768) (e : Fin 128) :
    extractStridedSlice (⟨4, ![2, 40, 128, n]⟩ : Shape) ![0, 0, 0, 0] (transpose S2x40x128x32768 [0, 2, 3, 1] X transposes_S2x32768x40x128_S2x40x128x32768_0_2_3_1) hs (ix4 b h e y) = X (ix4 b ⟨y.val, hy⟩ h e) := by
  pointwise
theorem row_at (X : Vec Ideal S2x32768x40x128 .fp8e4m3) (b : Fin 2) (h : Fin 40) (y : Fin 32768) (e : Fin 128) :
    transpose S2x40x32768x128 [0, 2, 1, 3] X transposes_S2x32768x40x128_S2x40x32768x128_0_2_1_3 (ix4 b h y e) = X (ix4 b y h e) := by
  pointwise
theorem col_at (X : Vec Ideal S2x32768x40x128 .fp8e4m3) (b : Fin 2) (h : Fin 40) (y : Fin 32768) (e : Fin 128) :
    transpose S2x40x128x32768 [0, 2, 3, 1] X transposes_S2x32768x40x128_S2x40x128x32768_0_2_3_1 (ix4 b h e y) = X (ix4 b y h e) := by
  pointwise

/-! ## The windows' blocks -/

theorem word (n : ℕ) (h : n < 64) : (BitVec.ofNat 32 n).toNat = n := by
  rw [BitVec.toNat_ofNat]; exact Nat.mod_eq_of_lt (by omega)
/-- The batch and the frame of a grid point. -/
def batchOf (i : grid0.Coords) : Fin 2 := ⟨(i 0).val, (i 0).isLt⟩
def frameOf (i : grid0.Coords) : Fin 21 := ⟨(i 2).val, (i 2).isLt⟩

variable (hO : Ok m) (c : Dev nD) (t : Fin (cfgM m hO).N)

theorem iblk0_at (b : Fin 2) (h : Fin 40) : (iblk m hO c 0 t : Vec Ideal S2x40 .f32) (ix2 b h) = V m c main_v2 (ix2 b h) := by
  have hi : @Eq S2x40.Idx ((((cfgM m hO).win 0).blk t).view.emb (ix2 b h : S2x40.Idx)) (ix2 b h) := funext fun (a : Fin 2) => Fin.ext (by
    refine (Pipeline.Window.rect_emb_val ((cfgM m hO).win 0) t (ix2 b h : S2x40.Idx) a).trans ?_
    match a with
    | 0 => show 0 * 2 + b.val = b.val; omega
    | 1 => show 0 * 40 + h.val = h.val; omega)
  exact congrArg (V m c main_v2) hi
theorem iblk1_at (b : Fin 2) (h : Fin 40) : (iblk m hO c 1 t : Vec Ideal S2x40 .f32) (ix2 b h) = argVs m c (ix2 b h) := by
  have hi : @Eq S2x40.Idx ((((cfgM m hO).win 1).blk t).view.emb (ix2 b h : S2x40.Idx)) (ix2 b h) := funext fun (a : Fin 2) => Fin.ext (by
    refine (Pipeline.Window.rect_emb_val ((cfgM m hO).win 1) t (ix2 b h : S2x40.Idx) a).trans ?_
    match a with
    | 0 => show 0 * 2 + b.val = b.val; omega
    | 1 => show 0 * 40 + h.val = h.val; omega)
  exact (congrArg (V m c main_arg5) hi).trans (congrFun (V_main_arg5 m c) _)

variable (hl : (headAt (F := Ideal) (tbl m 0) (grid0.coords t)).toNat < 40)

/-- The head of a grid point, out of the table. -/
abbrev hd : Fin 40 := ⟨(headAt (F := Ideal) (tbl m 0) (grid0.coords t)).toNat, hl⟩

section
open Pipeline (Window)
/-- The shared part: axis 0 is the batch, axis 1 the head. -/
theorem base0 : (BitVec.ofNat 32 ((grid0.coords t) 0).val).toNat * 1 + 0 = (batchOf (grid0.coords t)).val := by
  have h0 : ((grid0.coords t) 0).val < 2 := ((grid0.coords t) 0).isLt
  rw [word _ (by omega)]; exact Nat.mul_one _
theorem base2 (x : ℕ) : (BitVec.ofNat 32 ((grid0.coords t) 2).val).toNat * 1536 + x = (frameOf (grid0.coords t)).val * 1536 + x := by
  have h0 : ((grid0.coords t) 2).val < 21 := ((grid0.coords t) 2).isLt
  rw [word _ (by omega)]; rfl

theorem iblk2_at (x : Fin 1536) (e : Fin 128) : (iblk m hO c 2 t : Vec Ideal S1x1x1536x128 .fp8e4m3) (ix4 0 0 x e)
    = argQ m c (ix4 (batchOf (grid0.coords t)) (vidRow (frameOf (grid0.coords t)) x) (hd m hO t hl) e) := by
  have hi : @Eq S2x40x32256x128.Idx ((((cfgM m hO).win 2).blk t).view.emb (ix4 0 0 x e : S1x1x1536x128.Idx)) (ix4 (batchOf (grid0.coords t)) (hd m hO t hl) ⟨(frameOf (grid0.coords t)).val * 1536 + x.val, by omega⟩ e) := funext fun (a : Fin 4) => Fin.ext (by
    refine (Window.rect_emb_val ((cfgM m hO).win 2) t (ix4 0 0 x e : S1x1x1536x128.Idx) a).trans ?_
    match a with
    | 0 => exact base0 m hO t
    | 1 => exact Nat.mul_one _
    | 2 => exact base2 m hO t _
    | 3 => show 0 * 128 + e.val = e.val; omega)
  refine (congrArg (V m c main_v6) hi).trans ?_
  rw [V_v6]
  exact rows_at (n := 32256) _ _ _ _ _ _ _
theorem iblk3_at (x : Fin 1536) (e : Fin 128) : (iblk m hO c 3 t : Vec Ideal S1x1x1536x128 .fp8e4m3) (ix4 0 0 x e)
    = argK m c (ix4 (batchOf (grid0.coords t)) (vidRow (frameOf (grid0.coords t)) x) (hd m hO t hl) e) := by
  have hi : @Eq S2x40x32256x128.Idx ((((cfgM m hO).win 3).blk t).view.emb (ix4 0 0 x e : S1x1x1536x128.Idx)) (ix4 (batchOf (grid0.coords t)) (hd m hO t hl) ⟨(frameOf (grid0.coords t)).val * 1536 + x.val, by omega⟩ e) := funext fun (a : Fin 4) => Fin.ext (by
    refine (Window.rect_emb_val ((cfgM m hO).win 3) t (ix4 0 0 x e : S1x1x1536x128.Idx) a).trans ?_
    match a with
    | 0 => exact base0 m hO t
    | 1 => exact Nat.mul_one _
    | 2 => exact base2 m hO t _
    | 3 => show 0 * 128 + e.val = e.val; omega)
  refine (congrArg (V m c main_v7) hi).trans ?_
  rw [V_v7]
  exact rows_at (n := 32256) _ _ _ _ _ _ _
theorem iblk4_at (x : Fin 1536) (e : Fin 128) : (iblk m hO c 4 t : Vec Ideal S1x1x1536x128 .fp8e4m3) (ix4 0 0 x e)
    = argK m c (ix4 (batchOf (grid0.coords t)) (vidRow 0 x) (hd m hO t hl) e) := by
  have hi : @Eq S2x40x1536x128.Idx ((((cfgM m hO).win 4).blk t).view.emb (ix4 0 0 x e : S1x1x1536x128.Idx)) (ix4 (batchOf (grid0.coords t)) (hd m hO t hl) x e) := funext fun (a : Fin 4) => Fin.ext (by
    refine (Window.rect_emb_val ((cfgM m hO).win 4) t (ix4 0 0 x e : S1x1x1536x128.Idx) a).trans ?_
    match a with
    | 0 => exact base0 m hO t
    | 1 => exact Nat.mul_one _
    | 2 => show 0 * 1536 + x.val = x.val; omega
    | 3 => show 0 * 128 + e.val = e.val; omega)
  refine (congrArg (V m c main_v8) hi).trans ?_
  rw [V_v8]
  refine (rows_at (n := 1536) _ _ _ _ _ (by omega) _).trans (congrArg (fun r => argK m c (ix4 _ r _ e)) (Fin.ext ?_))
  show x.val = 0 * 1536 + x.val; omega
theorem iblk5_at (x : Fin 512) (e : Fin 128) : (iblk m hO c 5 t : Vec Ideal S1x1x512x128 .fp8e4m3) (ix4 0 0 x e)
    = argK m c (ix4 (batchOf (grid0.coords t)) (txtRow x) (hd m hO t hl) e) := by
  have hi : @Eq S2x40x32768x128.Idx ((((cfgM m hO).win 5).blk t).view.emb (ix4 0 0 x e : S1x1x512x128.Idx)) (ix4 (batchOf (grid0.coords t)) (hd m hO t hl) (txtRow x) e) := funext fun (a : Fin 4) => Fin.ext (by
    refine (Window.rect_emb_val ((cfgM m hO).win 5) t (ix4 0 0 x e : S1x1x512x128.Idx) a).trans ?_
    match a with
    | 0 => exact base0 m hO t
    | 1 => exact Nat.mul_one _
    | 2 => show 63 * 512 + x.val = 32256 + x.val; omega
    | 3 => show 0 * 128 + e.val = e.val; omega)
  refine (congrArg (V m c main_v4) hi).trans ?_
  rw [V_v4]
  exact row_at _ _ _ _ _
theorem iblk6_at (x : Fin 1536) (e : Fin 128) : (iblk m hO c 6 t : Vec Ideal S1x1x128x1536 .fp8e4m3) (ix4 0 0 e x)
    = argV m c (ix4 (batchOf (grid0.coords t)) (vidRow (frameOf (grid0.coords t)) x) (hd m hO t hl) e) := by
  have hi : @Eq S2x40x128x32256.Idx ((((cfgM m hO).win 6).blk t).view.emb (ix4 0 0 e x : S1x1x128x1536.Idx)) (ix4 (batchOf (grid0.coords t)) (hd m hO t hl) e ⟨(frameOf (grid0.coords t)).val * 1536 + x.val, by omega⟩) := funext fun (a : Fin 4) => Fin.ext (by
    refine (Window.rect_emb_val ((cfgM m hO).win 6) t (ix4 0 0 e x : S1x1x128x1536.Idx) a).trans ?_
    match a with
    | 0 => exact base0 m hO t
    | 1 => exact Nat.mul_one _
    | 2 => show 0 * 128 + e.val = e.val; omega
    | 3 => exact base2 m hO t _)
  refine (congrArg (V m c main_v9) hi).trans ?_
  rw [V_v9]
  exact cols_at (n := 32256) _ _ _ _ _ _ _
theorem iblk7_at (x : Fin 1536) (e : Fin 128) : (iblk m hO c 7 t : Vec Ideal S1x1x128x1536 .fp8e4m3) (ix4 0 0 e x)
    = argV m c (ix4 (batchOf (grid0.coords t)) (vidRow 0 x) (hd m hO t hl) e) := by
  have hi : @Eq S2x40x128x1536.Idx ((((cfgM m hO).win 7).blk t).view.emb (ix4 0 0 e x : S1x1x128x1536.Idx)) (ix4 (batchOf (grid0.coords t)) (hd m hO t hl) e x) := funext fun (a : Fin 4) => Fin.ext (by
    refine (Window.rect_emb_val ((cfgM m hO).win 7) t (ix4 0 0 e x : S1x1x128x1536.Idx) a).trans ?_
    match a with
    | 0 => exact base0 m hO t
    | 1 => exact Nat.mul_one _
    | 2 => show 0 * 128 + e.val = e.val; omega
    | 3 => show 0 * 1536 + x.val = x.val; omega)
  refine (congrArg (V m c main_v10) hi).trans ?_
  rw [V_v10]
  refine (cols_at (n := 1536) _ _ _ _ _ (by omega) _).trans (congrArg (fun r => argV m c (ix4 _ r _ e)) (Fin.ext ?_))
  show x.val = 0 * 1536 + x.val; omega
theorem iblk8_at (x : Fin 512) (e : Fin 128) : (iblk m hO c 8 t : Vec Ideal S1x1x128x512 .fp8e4m3) (ix4 0 0 e x)
    = argV m c (ix4 (batchOf (grid0.coords t)) (txtRow x) (hd m hO t hl) e) := by
  have hi : @Eq S2x40x128x32768.Idx ((((cfgM m hO).win 8).blk t).view.emb (ix4 0 0 e x : S1x1x128x512.Idx)) (ix4 (batchOf (grid0.coords t)) (hd m hO t hl) e (txtRow x)) := funext fun (a : Fin 4) => Fin.ext (by
    refine (Window.rect_emb_val ((cfgM m hO).win 8) t (ix4 0 0 e x : S1x1x128x512.Idx) a).trans ?_
    match a with
    | 0 => exact base0 m hO t
    | 1 => exact Nat.mul_one _
    | 2 => show 0 * 128 + e.val = e.val; omega
    | 3 => show 63 * 512 + x.val = 32256 + x.val; omega)
  refine (congrArg (V m c main_v5) hi).trans ?_
  rw [V_v5]
  exact col_at _ _ _ _ _
/-- Where an element of the result's block lies in the result. -/
theorem out_emb (x : Fin 1536) (d : Fin 128) : @Eq S2x32256x3456.Idx ((((cfgM m hO).win 9).blk t).view.emb (ix3 0 x d : S1x1536x128.Idx))
    (ix3 (batchOf (grid0.coords t)) ⟨(frameOf (grid0.coords t)).val * 1536 + x.val, by omega⟩ ⟨((grid0.coords t) 1).val * 128 + d.val, by
        have : ((grid0.coords t) 1).val < 27 := ((grid0.coords t) 1).isLt
        omega⟩) := funext fun (a : Fin 3) => Fin.ext (by
  refine (Window.rect_emb_val ((cfgM m hO).win 9) t (ix3 0 x d : S1x1536x128.Idx) a).trans ?_
  match a with
  | 0 => exact base0 m hO t
  | 1 => exact base2 m hO t _
  | 2 =>
    have : ((grid0.coords t) 1).val < 27 := ((grid0.coords t) 1).isLt
    show (BitVec.ofNat 32 ((grid0.coords t) 1).val).toNat * 128 + d.val = ((grid0.coords t) 1).val * 128 + d.val
    rw [word _ (by omega)])
end
end Cert.KernelIdeal.Value
end
-- ==== Proof.FrameIdeal.lean ====
/- The spatial kernel's run with the contents of its result array named: the block of every grid point is the one `out` names. -/
module

public import proofs.«01_k».proof.Proof.RunIdeal
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- One run of the body at point `t`, over the point's staging buffers and blocks. -/
abbrev runAt (hO : Ok m) (hH : Hyps m hO) (c : Dev nD) (t : Fin (cfgM m hO).N) :=
  kernelRun0_A (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (Hyps.c0 hH c t)

/-- `out` names what a run leaves in the result's staging buffer, whatever its scratch held before. -/
def Names (hO : Ok m) (hH : Hyps m hO) (out : (c : Dev nD) → Fin (cfgM m hO).N → Vec F S1x1536x128 .bf16) : Prop :=
  ∀ (c : Dev nD) (t : Fin (cfgM m hO).N) (fs2 : BufTy.Contents (Elt F) (scM0_2).view.ty) (f : BufTy.Contents (Elt F) (ms0_9 m hO t).view.ty),
    (ms0_9 m hO t).view.read (Elt F) ((ms0_9 m hO t).view.writes (Elt F) f ((runAt m hO hH c t).val fs2)) = out c t

/-- The proof data of the one pipeline on core `c`: the arrays as the region finds them (`V`); after the body at
    point `t` each input's buffer at its block and the output's at `out`; the invariant the class's
    (Lib/Pipeline/Frame.lean `ΦA`: the scoped rest and the generator register) and the tables' halves (`ΦT`); nothing owed;
    full shares. -/
def dats (hO : Ok m) (out : (c : Dev nD) → Fin (cfgM m hO).N → Vec F S1x1536x128 .bf16) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => out c t
  Φ _ := iprop(Pipeline.ΦA spec0 c ∗ Pipeline.ΦT pre0 (tbl m) c)
  q _ := fullShare
  owed _ := 0

/-- The proof data's arrays are the region-entry contents. -/
theorem A_eq (hO : Ok m) (out : (c : Dev nD) → Fin (cfgM m hO).N → Vec F S1x1536x128 .bf16) (c : Dev nD) (w : Fin (cfgM m hO).W) : (dats m hO out 0 c).A w = V m c (Pipeline.arrRef spec0 w) := by
  dsimp only [dats]

/-- What the body leaves, window by window (the proof data's `match` reduced by `dsimp`). -/
theorem after0_0 (hO : Ok m) (out : (c : Dev nD) → Fin (cfgM m hO).N → Vec F S1x1536x128 .bf16) (c : Dev nD) (t : Fin (cfgM m hO).N) : (dats m hO out 0 c).after 0 t = iblk m hO c 0 t := by dsimp only [dats]; try rfl
theorem after0_1 (hO : Ok m) (out : (c : Dev nD) → Fin (cfgM m hO).N → Vec F S1x1536x128 .bf16) (c : Dev nD) (t : Fin (cfgM m hO).N) : (dats m hO out 0 c).after 1 t = iblk m hO c 1 t := by dsimp only [dats]; try rfl
theorem after0_2 (hO : Ok m) (out : (c : Dev nD) → Fin (cfgM m hO).N → Vec F S1x1536x128 .bf16) (c : Dev nD) (t : Fin (cfgM m hO).N) : (dats m hO out 0 c).after 2 t = iblk m hO c 2 t := by dsimp only [dats]; try rfl
theorem after0_3 (hO : Ok m) (out : (c : Dev nD) → Fin (cfgM m hO).N → Vec F S1x1536x128 .bf16) (c : Dev nD) (t : Fin (cfgM m hO).N) : (dats m hO out 0 c).after 3 t = iblk m hO c 3 t := by dsimp only [dats]; try rfl
theorem after0_4 (hO : Ok m) (out : (c : Dev nD) → Fin (cfgM m hO).N → Vec F S1x1536x128 .bf16) (c : Dev nD) (t : Fin (cfgM m hO).N) : (dats m hO out 0 c).after 4 t = iblk m hO c 4 t := by dsimp only [dats]; try rfl
theorem after0_5 (hO : Ok m) (out : (c : Dev nD) → Fin (cfgM m hO).N → Vec F S1x1536x128 .bf16) (c : Dev nD) (t : Fin (cfgM m hO).N) : (dats m hO out 0 c).after 5 t = iblk m hO c 5 t := by dsimp only [dats]; try rfl
theorem after0_6 (hO : Ok m) (out : (c : Dev nD) → Fin (cfgM m hO).N → Vec F S1x1536x128 .bf16) (c : Dev nD) (t : Fin (cfgM m hO).N) : (dats m hO out 0 c).after 6 t = iblk m hO c 6 t := by dsimp only [dats]; try rfl
theorem after0_7 (hO : Ok m) (out : (c : Dev nD) → Fin (cfgM m hO).N → Vec F S1x1536x128 .bf16) (c : Dev nD) (t : Fin (cfgM m hO).N) : (dats m hO out 0 c).after 7 t = iblk m hO c 7 t := by dsimp only [dats]; try rfl
theorem after0_8 (hO : Ok m) (out : (c : Dev nD) → Fin (cfgM m hO).N → Vec F S1x1536x128 .bf16) (c : Dev nD) (t : Fin (cfgM m hO).N) : (dats m hO out 0 c).after 8 t = iblk m hO c 8 t := by dsimp only [dats]; try rfl
theorem after0_9 (hO : Ok m) (out : (c : Dev nD) → Fin (cfgM m hO).N → Vec F S1x1536x128 .bf16) (c : Dev nD) (t : Fin (cfgM m hO).N) : (dats m hO out 0 c).after 9 t = out c t := by dsimp only [dats]; try rfl

/-- Each input's current staging buffer holds its block at every point, fetched there or not (`beforeK_W_of`). -/
theorem before0_0 (hO : Ok m) (out : (c : Dev nD) → Fin (cfgM m hO).N → Vec F S1x1536x128 .bf16) (c : Dev nD) (t : Fin (cfgM m hO).N) (d) : (dats m hO out 0 c).before 0 t d = iblk m hO c 0 t :=
  before0_0_of m hO (dats m hO out 0 c) (A_eq m hO out c 0) (after0_0 m hO out c) t d
theorem before0_1 (hO : Ok m) (out : (c : Dev nD) → Fin (cfgM m hO).N → Vec F S1x1536x128 .bf16) (c : Dev nD) (t : Fin (cfgM m hO).N) (d) : (dats m hO out 0 c).before 1 t d = iblk m hO c 1 t :=
  before0_1_of m hO (dats m hO out 0 c) (A_eq m hO out c 1) (after0_1 m hO out c) t d
theorem before0_2 (hO : Ok m) (out : (c : Dev nD) → Fin (cfgM m hO).N → Vec F S1x1536x128 .bf16) (c : Dev nD) (t : Fin (cfgM m hO).N) (d) : (dats m hO out 0 c).before 2 t d = iblk m hO c 2 t :=
  before0_2_of m hO (dats m hO out 0 c) (A_eq m hO out c 2) (after0_2 m hO out c) t d
theorem before0_3 (hO : Ok m) (out : (c : Dev nD) → Fin (cfgM m hO).N → Vec F S1x1536x128 .bf16) (c : Dev nD) (t : Fin (cfgM m hO).N) (d) : (dats m hO out 0 c).before 3 t d = iblk m hO c 3 t :=
  before0_3_of m hO (dats m hO out 0 c) (A_eq m hO out c 3) (after0_3 m hO out c) t d
theorem before0_4 (hO : Ok m) (out : (c : Dev nD) → Fin (cfgM m hO).N → Vec F S1x1536x128 .bf16) (c : Dev nD) (t : Fin (cfgM m hO).N) (d) : (dats m hO out 0 c).before 4 t d = iblk m hO c 4 t :=
  before0_4_of m hO (dats m hO out 0 c) (A_eq m hO out c 4) (after0_4 m hO out c) t d
theorem before0_5 (hO : Ok m) (out : (c : Dev nD) → Fin (cfgM m hO).N → Vec F S1x1536x128 .bf16) (c : Dev nD) (t : Fin (cfgM m hO).N) (d) : (dats m hO out 0 c).before 5 t d = iblk m hO c 5 t :=
  before0_5_of m hO (dats m hO out 0 c) (A_eq m hO out c 5) (after0_5 m hO out c) t d
theorem before0_6 (hO : Ok m) (out : (c : Dev nD) → Fin (cfgM m hO).N → Vec F S1x1536x128 .bf16) (c : Dev nD) (t : Fin (cfgM m hO).N) (d) : (dats m hO out 0 c).before 6 t d = iblk m hO c 6 t :=
  before0_6_of m hO (dats m hO out 0 c) (A_eq m hO out c 6) (after0_6 m hO out c) t d
theorem before0_7 (hO : Ok m) (out : (c : Dev nD) → Fin (cfgM m hO).N → Vec F S1x1536x128 .bf16) (c : Dev nD) (t : Fin (cfgM m hO).N) (d) : (dats m hO out 0 c).before 7 t d = iblk m hO c 7 t :=
  before0_7_of m hO (dats m hO out 0 c) (A_eq m hO out c 7) (after0_7 m hO out c) t d
theorem before0_8 (hO : Ok m) (out : (c : Dev nD) → Fin (cfgM m hO).N → Vec F S1x1536x128 .bf16) (c : Dev nD) (t : Fin (cfgM m hO).N) (d) : (dats m hO out 0 c).before 8 t d = iblk m hO c 8 t :=
  before0_8_of m hO (dats m hO out 0 c) (A_eq m hO out c 8) (after0_8 m hO out c) t d

/-! ## The body obligation, at a generic point -/

/-- What the body is called with at point `t` (Lib/Pipeline.lean `BodyObligation`'s precondition, the windows one by one), -/
def bodyPre (hO : Ok m) (out : (c : Dev nD) → Fin (cfgM m hO).N → Vec F S1x1536x128 .bf16) (c : Dev nD) (t : Fin (cfgM m hO).N) : sProp 𝕄 :=
  iprop((dats m hO out 0 c).Φ t.castSucc ∗ (dats m hO out 0 c).owesAt () t.castSucc
    ∗ (∃ d, owns (c : Thread nD τ) (ms0_0 m hO t) fullShare ((dats m hO out 0 c).before 0 t d))
    ∗ (∃ d, owns (c : Thread nD τ) (ms0_1 m hO t) fullShare ((dats m hO out 0 c).before 1 t d))
    ∗ (∃ d, owns (c : Thread nD τ) (ms0_2 m hO t) fullShare ((dats m hO out 0 c).before 2 t d))
    ∗ (∃ d, owns (c : Thread nD τ) (ms0_3 m hO t) fullShare ((dats m hO out 0 c).before 3 t d))
    ∗ (∃ d, owns (c : Thread nD τ) (ms0_4 m hO t) fullShare ((dats m hO out 0 c).before 4 t d))
    ∗ (∃ d, owns (c : Thread nD τ) (ms0_5 m hO t) fullShare ((dats m hO out 0 c).before 5 t d))
    ∗ (∃ d, owns (c : Thread nD τ) (ms0_6 m hO t) fullShare ((dats m hO out 0 c).before 6 t d))
    ∗ (∃ d, owns (c : Thread nD τ) (ms0_7 m hO t) fullShare ((dats m hO out 0 c).before 7 t d))
    ∗ (∃ d, owns (c : Thread nD τ) (ms0_8 m hO t) fullShare ((dats m hO out 0 c).before 8 t d))
    ∗ (∃ d, owns (c : Thread nD τ) (ms0_9 m hO t) fullShare ((dats m hO out 0 c).before 9 t d)))

/-- A buffer held at some block is held at some contents. -/
theorem open_owns (c : Dev nD) {sp : Space} {sh : Shape} {e : EltTy} (M : Memref sig .tc sp sh e) :
    (iprop(∃ d, owns (c : Thread nD τ) M fullShare d) : sProp 𝕄) ⊢ iprop(∃ f, M.view.loc (c : Thread nD τ) ↦[M.view.set]{fullShare} f) := by
  unfold owns
  iintro ⟨%d, %f, -, H⟩
  iexists f
  iexact H
/-- Contents that read as a block are the block held. -/
theorem close_owns (c : Dev nD) {sp : Space} {sh : Shape} {e : EltTy} (M : Memref sig .tc sp sh e) (d : sh.Idx → Elt F e)
    (L : List (View.Piece (Elt F) sh e)) (h : ∀ f, M.view.read (Elt F) (M.view.writes (Elt F) f L) = d) :
    (iprop(∃ f, M.view.loc (c : Thread nD τ) ↦[M.view.set]{fullShare} M.view.writes (Elt F) f L) : sProp 𝕄) ⊢ owns (c : Thread nD τ) M fullShare d := by
  unfold owns
  iintro ⟨%f, H⟩
  iexists _
  isplitr
  · ipureintro; exact h f
  iexact H

/-- and what it returns. -/
def bodyPost (hO : Ok m) (out : (c : Dev nD) → Fin (cfgM m hO).N → Vec F S1x1536x128 .bf16) (c : Dev nD) (t : Fin (cfgM m hO).N) : sProp 𝕄 :=
  iprop((dats m hO out 0 c).Φ t.succ ∗ (dats m hO out 0 c).owesAt () t.succ
    ∗ owns (c : Thread nD τ) (ms0_0 m hO t) fullShare ((dats m hO out 0 c).after 0 t)
    ∗ owns (c : Thread nD τ) (ms0_1 m hO t) fullShare ((dats m hO out 0 c).after 1 t)
    ∗ owns (c : Thread nD τ) (ms0_2 m hO t) fullShare ((dats m hO out 0 c).after 2 t)
    ∗ owns (c : Thread nD τ) (ms0_3 m hO t) fullShare ((dats m hO out 0 c).after 3 t)
    ∗ owns (c : Thread nD τ) (ms0_4 m hO t) fullShare ((dats m hO out 0 c).after 4 t)
    ∗ owns (c : Thread nD τ) (ms0_5 m hO t) fullShare ((dats m hO out 0 c).after 5 t)
    ∗ owns (c : Thread nD τ) (ms0_6 m hO t) fullShare ((dats m hO out 0 c).after 6 t)
    ∗ owns (c : Thread nD τ) (ms0_7 m hO t) fullShare ((dats m hO out 0 c).after 7 t)
    ∗ owns (c : Thread nD τ) (ms0_8 m hO t) fullShare ((dats m hO out 0 c).after 8 t)
    ∗ owns (c : Thread nD τ) (ms0_9 m hO t) fullShare ((dats m hO out 0 c).after 9 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (out : (c : Dev nD) → Fin (cfgM m hO).N → Vec F S1x1536x128 .bf16) (hN : Names m hO hH out) (c : Dev nD) (t : Fin (cfgM m hO).N) :
    bodyPre m hO out c t ⊢ wp frame (wpE (defs₀ (F := F)) Variants.none c none) Set.univ (bodyAt0 (adm m hO) t) (fun _ => bodyPost m hO out c t) := by
  unfold bodyPre bodyPost bodyAt0
  simp only [before0_0, before0_1, before0_2, before0_3, before0_4, before0_5, before0_6, before0_7, before0_8]
  rw [show (dats m hO out 0 c).Φ t.succ = (dats m hO out 0 c).Φ t.castSucc from rfl,
    show (dats m hO out 0 c).owesAt () t.succ = (dats m hO out 0 c).owesAt () t.castSucc from rfl,
    after0_0, after0_1, after0_2, after0_3, after0_4, after0_5, after0_6, after0_7, after0_8, after0_9]
  rw [show (dats m hO out 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HS2' := (open_owns (F := F) c scM0_2) $$ HS2
  icases HS2' with ⟨%fs2, HS2⟩
  iapply ((runAt m hO hH c t).property fs2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, H9, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (close_owns (F := F) c (ms0_9 m hO t) (out c t) _ fun f => hN c t fs2 f)
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (out : (c : Dev nD) → Fin (cfgM m hO).N → Vec F S1x1536x128 .bf16) (hN : Names m hO hH out) (c : Dev nD) : BodyObligation (dats (F := F) m hO out 0 c) (defs₀ (F := F)) Variants.none () Set.univ := fun t => by
  rw [bigSep_W0, bigSep_W0, defs₀_row m hO]
  exact triple_restated (sound_body m hO hH out hN c t) rfl .rfl fun _ => .rfl

/-! ## The run and the frame -/

set_option backward.isDefEq.respectTransparency.types false in
/-- The launch: the result array ends at the blocks `out` names, every other buffer as it was when the launch began, and
    every semaphore counter at zero. -/
theorem run_main_quiescent (hO : Ok m) (hH : Hyps m hO) (out : (c : Dev nD) → Fin (cfgM m hO).N → Vec F S1x1536x128 .bf16) (hN : Names m hO hH out) :
    θ_run defs (onTc (τ := τ) (main (F := F))) (s₀ m ρ) (fun r => (Pipeline.FramePost (Pipeline.pin pcfgs fun _ => adm m hO) (dats m hO out) 0 (V m)) r ∧ r.2.sem = fun _ => 0) :=
  Pipeline.θ_run_frameP (Q' := _) pcfgs (fun _ => adm m hO) (dats m hO out) (0 : Fin 1) launch0 defs₀ Variants.none m ρ main
    (hbody := fun c => (body_obligation m hO hH out hN c).loose) (hshare := fun c => (dats m hO out 0 c).share_full fun _ => rfl)
    (howed := fun _ _ => rfl) (V := V m) (hmain := hmain m Variants.none) (hA := A_eq m hO out) (hpf := V_pre m) (hΦ := fun _ _ => rfl)

end Cert.KernelIdeal.Gen

end
-- ==== Proof.Result.lean ====
module
public import proofs.«01_k».proof.Proof.Spec
@[expose] public section
noncomputable section
/-! The whole result, as a function of the inputs' elements. -/
namespace Cert.KernelIdeal.Value
open Idealize.ShloMosaic
/-- The head at position `i` of the list of heads. -/
def headNo (T : Fin 40 → BitVec 32) (i : Fin 27) : Fin 40 := ⟨min (T ⟨i.val, by omega⟩).toNat 39, by omega⟩
/-- The result at batch `b`, video row `r` and channel `ch` of the heads laid side by side. -/
def resultAt (q k v : Fin 2 → Fin 32768 → Fin 40 → Fin 128 → EReal) (qs ks vs : Fin 2 → Fin 40 → EReal) (T : Fin 40 → BitVec 32) (b : Fin 2) (r : Fin 32256) (ch : Fin 3456) : EReal :=
  spec q k v qs ks vs b ⟨r.val / 1536, by omega⟩ ⟨r.val % 1536, by omega⟩ (headNo T ⟨ch.val / 128, by omega⟩) ⟨ch.val % 128, by omega⟩
theorem resultAt_eq (q k v : Fin 2 → Fin 32768 → Fin 40 → Fin 128 → EReal) (qs ks vs : Fin 2 → Fin 40 → EReal) (T : Fin 40 → BitVec 32) (b : Fin 2) (f : Fin 21) (x : Fin 1536) (i : Fin 27) (d : Fin 128) :
    resultAt q k v qs ks vs T b ⟨f.val * 1536 + x.val, by omega⟩ ⟨i.val * 128 + d.val, by omega⟩ = spec q k v qs ks vs b f x (headNo T i) d := by
  unfold resultAt
  have h1 : (⟨(f.val * 1536 + x.val) / 1536, by omega⟩ : Fin 21) = f := Fin.ext (by show (f.val * 1536 + x.val) / 1536 = f.val; omega)
  have h2 : (⟨(f.val * 1536 + x.val) % 1536, by omega⟩ : Fin 1536) = x := Fin.ext (by show (f.val * 1536 + x.val) % 1536 = x.val; omega)
  have h3 : (⟨(i.val * 128 + d.val) / 128, by omega⟩ : Fin 27) = i := Fin.ext (by show (i.val * 128 + d.val) / 128 = i.val; omega)
  have h4 : (⟨(i.val * 128 + d.val) % 128, by omega⟩ : Fin 128) = d := Fin.ext (by show (i.val * 128 + d.val) % 128 = d.val; omega)
  rw [h1, h2, h3, h4]
/-- Every row is a row of a frame, and every channel a channel of a head. -/
theorem split_row (r : Fin 32256) : ∃ (f : Fin 21) (x : Fin 1536), r = ⟨f.val * 1536 + x.val, by omega⟩ :=
  ⟨⟨r.val / 1536, by omega⟩, ⟨r.val % 1536, by omega⟩, Fin.ext (by show r.val = r.val / 1536 * 1536 + r.val % 1536; omega)⟩
theorem split_channel (ch : Fin 3456) : ∃ (i : Fin 27) (d : Fin 128), ch = ⟨i.val * 128 + d.val, by omega⟩ :=
  ⟨⟨ch.val / 128, by omega⟩, ⟨ch.val % 128, by omega⟩, Fin.ext (by show ch.val = ch.val / 128 * 128 + ch.val % 128; omega)⟩
end Cert.KernelIdeal.Value
-- ==== Proof.ValueIdeal.lean ====
/- The spatial kernel's result, element by element, and its run. -/
module

public import proofs.«01_k».proof.Proof.BodyVal
public import proofs.«01_k».proof.Proof.HostIdeal
public import proofs.«01_k».proof.Proof.FrameIdeal
public import proofs.«01_k».proof.Proof.Result
public import Idealize.ShloMosaic.Lib.Pipeline.Covers

@[expose] public section

set_option maxRecDepth 16384

noncomputable section

namespace Cert.KernelIdeal.Value
open Cert.KernelIdeal Cert.KernelIdeal.Gen
open Idealize.ShloMosaic Idealize.ShloMosaic.TcCoe Idealize.ShloMosaic.Tactic
open Idealize.SL.Sem

/-! ## The two scales, as the body reads them -/

section
variable (c : Dev nD) (i : grid0.Coords) (arg4 : Memref sig .tc .smem S2x40 .f32) (harg4 : arg4.IsWhole) (x0 : Vec Ideal S2x40 .f32) (xt0 : TbBuf0 (F := Ideal) c tbM0_0)
  (k0_hw1 : k0_chk1 i (tbM0_0.view.readAt (Elt Ideal) (Rect.unit (s := S40) (k0_off1 i) S1.size (k0_off1_inb i)).toLoadRect xt0 (Shape.Idx.first (numel1_S1.symm ▸ Nat.one_pos))))
  (hl : (headAt (F := Ideal) xt0 i).toNat < 40)
theorem off_batch : (BitVec.ofNat 32 (i 0).val).toNat = (batchOf i).val := by
  have h0 : (i 0).val < 2 := (i 0).isLt
  exact word _ (by omega)
theorem r1_eq : kernelRun0_A.sl.r_1 (F := Ideal) c i arg4 harg4 x0 xt0 k0_hw1 = x0 (ix2 (batchOf i) ⟨(headAt (F := Ideal) xt0 i).toNat, hl⟩) := by
  unfold kernelRun0_A.sl.r_1
  refine (harg4.readAt_unread x0 _ _).trans (congrArg x0 (funext fun (a : Fin 2) => Fin.ext ?_))
  match a with
  | 0 => show (BitVec.ofNat 32 (i 0).val).toNat + 1 * 0 = _; exact off_batch i
  | 1 => rfl
theorem r3_eq : kernelRun0_A.sl.r_3 (F := Ideal) c i arg4 harg4 x0 xt0 k0_hw1 = x0 (ix2 (batchOf i) ⟨(headAt (F := Ideal) xt0 i).toNat, hl⟩) * (invLog2 : EReal) := by
  unfold kernelRun0_A.sl.r_3
  rw [r1_eq c i arg4 harg4 x0 xt0 k0_hw1 hl]
  exact pay8_eq _
theorem r2_eq : kernelRun0_A.sl.r_2 (F := Ideal) c i arg4 harg4 x0 xt0 k0_hw1 = x0 (ix2 (batchOf i) ⟨(headAt (F := Ideal) xt0 i).toNat, hl⟩) := by
  unfold kernelRun0_A.sl.r_2
  refine (harg4.readAt_unread x0 _ _).trans (congrArg x0 (funext fun (a : Fin 2) => Fin.ext ?_))
  match a with
  | 0 => show (BitVec.ofNat 32 (i 0).val).toNat + 1 * 0 = _; exact off_batch i
  | 1 => rfl
end

/-! ## The three families of keys -/

theorem key_txt (t : Vec Ideal S1x1x512x128 .fp8e4m3) (o z : Vec Ideal S1x1x1536x128 .fp8e4m3) (y : Fin 512) (e : Fin 128) : keyOf t o z y.val e = t (ix4 0 0 y e) := by
  unfold keyOf; rw [dif_pos y.isLt]
theorem key_own (t : Vec Ideal S1x1x512x128 .fp8e4m3) (o z : Vec Ideal S1x1x1536x128 .fp8e4m3) (y : Fin 1536) (e : Fin 128) : keyOf t o z (512 + y.val) e = o (ix4 0 0 y e) := by
  unfold keyOf; rw [dif_neg (by omega), dif_pos (by omega)]
  exact congrArg (fun r => o (ix4 0 0 r e)) (Fin.ext (by show 512 + y.val - 512 = y.val; omega))
theorem key_zero (t : Vec Ideal S1x1x512x128 .fp8e4m3) (o z : Vec Ideal S1x1x1536x128 .fp8e4m3) (y : Fin 1536) (e : Fin 128) : keyOf t o z (2048 + y.val) e = z (ix4 0 0 y e) := by
  unfold keyOf; rw [dif_neg (by omega), dif_neg (by omega), dif_pos (by omega)]
  exact congrArg (fun r => z (ix4 0 0 r e)) (Fin.ext (by show 2048 + y.val - 2048 = y.val; omega))
theorem val_txt (t : Vec Ideal S1x1x128x512 .fp8e4m3) (o z : Vec Ideal S1x1x128x1536 .fp8e4m3) (y : Fin 512) (d : Fin 128) : valOf t o z d y.val = t (ix4 0 0 d y) := by
  unfold valOf; rw [dif_pos y.isLt]
theorem val_own (t : Vec Ideal S1x1x128x512 .fp8e4m3) (o z : Vec Ideal S1x1x128x1536 .fp8e4m3) (y : Fin 1536) (d : Fin 128) : valOf t o z d (512 + y.val) = o (ix4 0 0 d y) := by
  unfold valOf; rw [dif_neg (by omega), dif_pos (by omega)]
  exact congrArg (fun r => o (ix4 0 0 d r)) (Fin.ext (by show 512 + y.val - 512 = y.val; omega))
theorem val_zero (t : Vec Ideal S1x1x128x512 .fp8e4m3) (o z : Vec Ideal S1x1x128x1536 .fp8e4m3) (y : Fin 1536) (d : Fin 128) : valOf t o z d (2048 + y.val) = z (ix4 0 0 d y) := by
  unfold valOf; rw [dif_neg (by omega), dif_neg (by omega), dif_pos (by omega)]
  exact congrArg (fun r => z (ix4 0 0 d r)) (Fin.ext (by show 2048 + y.val - 2048 = y.val; omega))

/-! ## One point -/

variable (m : (ℓ : Loc nD τ sig) → Buf (Elt Ideal) ℓ)

abbrev fnQ (c : Dev nD) : Fin 2 → Fin 32768 → Fin 40 → Fin 128 → EReal := fun b r h e => argQ m c (ix4 b r h e)
abbrev fnK (c : Dev nD) : Fin 2 → Fin 32768 → Fin 40 → Fin 128 → EReal := fun b r h e => argK m c (ix4 b r h e)
abbrev fnV (c : Dev nD) : Fin 2 → Fin 32768 → Fin 40 → Fin 128 → EReal := fun b r h e => argV m c (ix4 b r h e)
abbrev fnQs (c : Dev nD) : Fin 2 → Fin 40 → EReal := fun b h => argQs m c (ix2 b h)
abbrev fnKs (c : Dev nD) : Fin 2 → Fin 40 → EReal := fun b h => argKs m c (ix2 b h)
abbrev fnVs (c : Dev nD) : Fin 2 → Fin 40 → EReal := fun b h => argVs m c (ix2 b h)
abbrev fnT (c : Dev nD) : Fin 40 → BitVec 32 := fun j => m ((c : Thread nD τ).loc main_arg6) (ix1 j)

/-- The kernel's row over blocks that hold the right rows of the inputs is the specified row. -/
theorem row_eq_spec (n : ℕ) (q k v : Fin 2 → Fin 32768 → Fin 40 → Fin 128 → EReal) (qs ks vs : Fin 2 → Fin 40 → EReal) (b : Fin 2) (f : Fin 21) (h : Fin 40) (hn : n = 512 * (if f.val = 0 then 4 else 7))
    (x2 x3 x4 : Vec Ideal S1x1x1536x128 .fp8e4m3) (x5 : Vec Ideal S1x1x512x128 .fp8e4m3) (x6 x7 : Vec Ideal S1x1x128x1536 .fp8e4m3) (x8 : Vec Ideal S1x1x128x512 .fp8e4m3)
    (h2 : ∀ x e, x2 (ix4 0 0 x e) = q b (vidRow f x) h e) (h3 : ∀ x e, x3 (ix4 0 0 x e) = k b (vidRow f x) h e) (h4 : ∀ x e, x4 (ix4 0 0 x e) = k b (vidRow 0 x) h e) (h5 : ∀ x e, x5 (ix4 0 0 x e) = k b (txtRow x) h e)
    (h6 : ∀ x e, x6 (ix4 0 0 e x) = v b (vidRow f x) h e) (h7 : ∀ x e, x7 (ix4 0 0 e x) = v b (vidRow 0 x) h e) (h8 : ∀ x e, x8 (ix4 0 0 e x) = v b (txtRow x) h e) (x : Fin 1536) (d : Fin 128) :
    kernelRow n (scoreScale (qs b h) (ks b h) * (invLog2 : EReal)) (vs b h) (fun κ => ∑ e, keyOf x5 x3 x4 κ e * x2 (ix4 0 0 x e)) (valOf x8 x6 x7 d) = spec q k v qs ks vs b f x h d := by
  have own : ∀ y : Fin 1536, (∑ e, keyOf x5 x3 x4 (512 + y.val) e * x2 (ix4 0 0 x e)) = ∑ e, q b (vidRow f x) h e * k b (vidRow f y) h e :=
    fun y => Finset.sum_congr rfl fun e _ => by rw [key_own, h3, h2]; exact mul_comm _ _
  have zero : ∀ y : Fin 1536, (∑ e, keyOf x5 x3 x4 (2048 + y.val) e * x2 (ix4 0 0 x e)) = ∑ e, k b (vidRow 0 y) h e * q b (vidRow f x) h e :=
    fun y => Finset.sum_congr rfl fun e _ => by rw [key_zero, h4, h2]
  have txt : ∀ y : Fin 512, (∑ e, keyOf x5 x3 x4 y.val e * x2 (ix4 0 0 x e)) = ∑ e, k b (txtRow y) h e * q b (vidRow f x) h e :=
    fun y => Finset.sum_congr rfl fun e _ => by rw [key_txt, h5, h2]
  by_cases hf : f.val = 0
  · have hF : f = 0 := Fin.ext hf
    rw [hn, if_pos hf]
    refine (row_first _ _ _ _ (fun y => v b (vidRow 0 y) h d)).trans ?_
    unfold spec
    refine refRow_congr (fun y => ?_) (fun y => (if_pos hF).symm) (fun y => ?_) (fun y => ?_) (fun y => rfl) (fun y => ?_) rfl
    · exact congrArg (· * _) (own y)
    · exact congrArg (· * _) (txt y)
    · rw [val_own, h6]
    · rw [val_txt, h8]
  · have hF : f ≠ 0 := fun h => hf (congrArg Fin.val h)
    rw [hn, if_neg hf]
    refine (row_later _ _ _ _).trans ?_
    unfold spec
    refine refRow_congr (fun y => ?_) (fun y => ?_) (fun y => ?_) (fun y => ?_) (fun y => ?_) (fun y => ?_) rfl
    · exact congrArg (· * _) (own y)
    · rw [if_neg hF]; exact congrArg (· * _) (zero y)
    · exact congrArg (· * _) (txt y)
    · rw [val_own, h6]
    · rw [val_zero, h7]
    · rw [val_txt, h8]

/-- The block of the result at every point. -/
def outOf (hO : Ok m) (hl : ∀ i : grid0.Coords, (headAt (F := Ideal) (tbl m 0) i).toNat < 40) (c : Dev nD) (t : Fin (cfgM m hO).N) : Vec Ideal S1x1536x128 .bf16 :=
  fun j => spec (fnQ m c) (fnK m c) (fnV m c) (fnQs m c) (fnKs m c) (fnVs m c) (batchOf (grid0.coords t)) (frameOf (grid0.coords t)) (j 1) (hd m hO t (hl _)) (j 2)

theorem names (hO : Ok m) (hH : Hyps m hO) (hl : ∀ i : grid0.Coords, (headAt (F := Ideal) (tbl m 0) i).toNat < 40) : Names m hO hH (outOf m hO hl) := by
  intro c t fs2 f
  funext j
  obtain ⟨x, d, rfl⟩ : ∃ (x : Fin 1536) (d : Fin 128), j = ix3 0 x d := ⟨j (1 : Fin 3), j (2 : Fin 3), (eq_ix3 (n0 := 1) (n1 := 1536) (n2 := 128) j).trans (congrArg (fun z : Fin 1 => ix3 z (j (1 : Fin 3)) (j (2 : Fin 3))) (Subsingleton.elim (α := Fin 1) (j (0 : Fin 3)) 0))⟩
  have e0 : kernelRun0_A.sl.r_3 (F := Ideal) c (grid0.coords t) (ms0_0 m hO t) (hs0_0 m hO t) (iblk m hO c 0 t) (tbl m 0) (Hyps.c0 hH c t) = scoreScale (fnQs m c (batchOf (grid0.coords t)) (hd m hO t (hl _))) (fnKs m c (batchOf (grid0.coords t)) (hd m hO t (hl _))) * (invLog2 : EReal) :=
    (r3_eq c (grid0.coords t) _ _ _ _ _ (hl _)).trans (congrArg (fun z : EReal => z * (invLog2 : EReal)) ((iblk0_at m hO c t _ _).trans (v2_at m c _ _)))
  have e1 : kernelRun0_A.sl.r_2 (F := Ideal) c (grid0.coords t) (ms0_1 m hO t) (hs0_1 m hO t) (iblk m hO c 1 t) (tbl m 0) (Hyps.c0 hH c t) = fnVs m c (batchOf (grid0.coords t)) (hd m hO t (hl _)) :=
    (r2_eq c (grid0.coords t) _ _ _ _ _ (hl _)).trans (iblk1_at m hO c t _ _)
  refine Eq.trans (body_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (Hyps.c0 hH c t) fs2 f x d) ?_
  refine (congrArg₂ (fun a b : EReal => kernelRow (nkeys (grid0.coords t)) a b _ _) e0 e1).trans ?_
  exact row_eq_spec (nkeys (grid0.coords t)) (fnQ m c) (fnK m c) (fnV m c) (fnQs m c) (fnKs m c) (fnVs m c) (batchOf (grid0.coords t)) (frameOf (grid0.coords t)) (hd m hO t (hl _)) rfl
    (iblk m hO c 2 t) (iblk m hO c 3 t) (iblk m hO c 4 t) (iblk m hO c 5 t) (iblk m hO c 6 t) (iblk m hO c 7 t) (iblk m hO c 8 t)
    (iblk2_at m hO c t (hl _)) (iblk3_at m hO c t (hl _)) (iblk4_at m hO c t (hl _)) (iblk5_at m hO c t (hl _)) (iblk6_at m hO c t (hl _)) (iblk7_at m hO c t (hl _)) (iblk8_at m hO c t (hl _)) x d

/-! ## The whole result -/

/-- The result array. -/
def result (c : Dev nD) : Vec Ideal S2x32256x3456 .bf16 := fun j => resultAt (fnQ m c) (fnK m c) (fnV m c) (fnQs m c) (fnKs m c) (fnVs m c) (fnT m c) (j 0) (j 1) (j 2)

theorem head_eq (hO : Ok m) (c : Dev nD) (t : Fin (cfgM m hO).N) (hl : (headAt (F := Ideal) (tbl m 0) (grid0.coords t)).toNat < 40) :
    hd m hO t hl = headNo (fnT m c) ⟨((grid0.coords t) 1).val, ((grid0.coords t) 1).isLt⟩ := by
  obtain rfl : c = 0 := Subsingleton.elim _ _
  have hi : ((grid0.coords t) 1).val < 27 := ((grid0.coords t) 1).isLt
  have e : headAt (F := Ideal) (tbl m 0) (grid0.coords t) = fnT m 0 ⟨((grid0.coords t) 1).val, by omega⟩ := by
    rw [show (tbl m 0 : (⟨S40, .i32⟩ : BufTy).Contents (Elt Ideal)) = _ from tbl_eq m]
    refine congrArg (m (((0 : Dev nD) : Thread nD τ).loc main_arg6)) (funext fun (a : Fin 1) => Fin.ext ?_)
    obtain rfl : a = 0 := Subsingleton.elim _ _
    show k0_off1 (grid0.coords t) 0 + 1 * 0 = _
    exact off1_val _
  refine Fin.ext ?_
  show (headAt (F := Ideal) (tbl m 0) (grid0.coords t)).toNat = min (fnT m 0 ⟨((grid0.coords t) 1).val, by omega⟩).toNat 39
  rw [← e]; omega

theorem arr_eq (hO : Ok m) (hl : ∀ i : grid0.Coords, (headAt (F := Ideal) (tbl m 0) i).toNat < 40) (c : Dev nD) :
    (dats m hO (outOf m hO hl) 0 c).arrAt 9 (cfgM m hO).N = result m c := by
  refine (dats m hO (outOf m hO hl) 0 c).arrAt_eq_of_covers 9 (result m c) ?_ fun t hf y => ?_
  · refine ((cfgM m hO).win 9).covers_of_indexMap_surj rfl (by show ∀ a : Fin 3, 0 < S1x1536x128.size a; decide) fun β => ?_
    have b0 : (β (0 : Fin 3)).val < 2 := lt_of_lt_of_eq (β (0 : Fin 3)).isLt (by show (S2x32256x3456.size 0 + S1x1536x128.size 0 - 1) / S1x1536x128.size 0 = 2; decide)
    have b1 : (β (1 : Fin 3)).val < 21 := lt_of_lt_of_eq (β (1 : Fin 3)).isLt (by show (S2x32256x3456.size 1 + S1x1536x128.size 1 - 1) / S1x1536x128.size 1 = 21; decide)
    have b2 : (β (2 : Fin 3)).val < 27 := lt_of_lt_of_eq (β (2 : Fin 3)).isLt (by show (S2x32256x3456.size 2 + S1x1536x128.size 2 - 1) / S1x1536x128.size 2 = 27; decide)
    refine ⟨fun (a : Fin 3) => match a with | 0 => ⟨(β (0 : Fin 3)).val, b0⟩ | 1 => ⟨(β (2 : Fin 3)).val, b2⟩ | 2 => ⟨(β (1 : Fin 3)).val, b1⟩, fun (a : Fin 3) => ?_⟩
    match a with
    | 0 => exact word (β (0 : Fin 3)).val (by omega)
    | 1 => exact word (β (1 : Fin 3)).val (by omega)
    | 2 => exact word (β (2 : Fin 3)).val (by omega)
  · obtain ⟨x, d, rfl⟩ : ∃ (x : Fin 1536) (d : Fin 128), y = (ix3 0 x d : S1x1536x128.Idx) := ⟨y (1 : Fin 3), y (2 : Fin 3), (eq_ix3 (n0 := 1) (n1 := 1536) (n2 := 128) y).trans (congrArg (fun z : Fin 1 => ix3 z (y (1 : Fin 3)) (y (2 : Fin 3))) (Subsingleton.elim (α := Fin 1) (y (0 : Fin 3)) 0))⟩
    rw [after0_9]
    refine Eq.trans (b := outOf m hO hl c t (ix3 0 x d)) rfl ?_
    refine Eq.trans ?_ (congrArg (result m c) (out_emb m hO t x d)).symm
    show spec _ _ _ _ _ _ _ _ x (hd m hO t (hl _)) d = resultAt _ _ _ _ _ _ _ (batchOf (grid0.coords t)) _ _
    rw [head_eq m hO c t (hl _)]
    exact (resultAt_eq _ _ _ _ _ _ _ (batchOf (grid0.coords t)) (frameOf (grid0.coords t)) x ⟨((grid0.coords t) 1).val, ((grid0.coords t) 1).isLt⟩ d).symm

variable (ρ : Dev nD → PrngReg)

/-- The frame with every counter at zero. -/
theorem frame (hO : Ok m) (hH : Hyps m hO) (hl : ∀ i : grid0.Coords, (headAt (F := Ideal) (tbl m 0) i).toNat < 40) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (dats m hO (outOf m hO hl)) (A_eq m hO _) ((θ_run defs _ _).mono (fun _ h => h.1) (run_main_quiescent m ρ hO hH _ (names m hO hH hl))))
    ((θ_run defs _ _).mono (fun _ h => h.2) (run_main_quiescent m ρ hO hH _ (names m hO hH hl)))

/-- The run's result, its arguments unchanged. -/
theorem run (hO : Ok m) (hH : Hyps m hO) (hl : ∀ i : grid0.Coords, (headAt (F := Ideal) (tbl m 0) i).toNat < 40) :
    θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h.2 c, h.1 c⟩)
    (θ_run_and (frame_of m ρ hO (dats m hO (outOf m hO hl)) (A_eq m hO _) ((θ_run defs _ _).mono (fun _ h => h.1) (run_main_quiescent m ρ hO hH _ (names m hO hH hl))))
      ((θ_run defs _ _).mono (fun r h c => ((h.1 c).1 9).trans (arr_eq m hO hl c) : ∀ r, _ → ∀ c : Dev nD, r.2.mem ((c.tc : Thread nD τ).loc main_v11) = result m c)
        (run_main_quiescent m ρ hO hH _ (names m hO hH hl))))

end Cert.KernelIdeal.Value
end
-- ==== Proof.RefVal.lean ====
module
public import proofs.«01_k».proof.Proof.Gen.RefIdeal.Frame
public import Idealize.ShloMosaic.Lib.Pipeline.ValueKit
@[expose] public section
set_option maxRecDepth 16384
noncomputable section
/-! The reference's attention, stage by stage, read at an index. -/
namespace Cert.RefIdeal.Value
open Cert.RefIdeal Cert.RefIdeal.Gen
open Idealize.ShloMosaic Idealize.ShloMosaic.TcCoe
open Idealize.SL.Sem

/-- The score scale of every head. -/
def scaleV (a b : FVec Ideal S2x27 .f32) : FVec Ideal S2x1x27x1x1 .f32 :=
  broadcastInDim S2x1x27x1x1 ![0, 2] bcast_S2x27_S2x1x27x1x1_0_2
    (mulf (mulf a b) (broadcastInDim S2x27 ![] bcast_S_S2x27 (constant S_ FTy.f32 1035273459#32)))
theorem scaleV_at (a b : FVec Ideal S2x27 .f32) (x : Fin 2) (i : Fin 27) :
    scaleV a b (ix5 x 0 i 0 0) = a (ix2 x i) * b (ix2 x i) * Ideal.ofBits .f32 1035273459#32 := by
  pointwise [scaleV]
/-- The video rows, frame by frame. -/
def frames {φ : FTy} (x : FVec Ideal S2x32768x27x128 φ) : FVec Ideal S2x21x1536x27x128 φ :=
  shapeCast S2x21x1536x27x128 (extractStridedSlice S2x32256x27x128 ![0, 0, 0, 0] x slices_S2x32768x27x128_S2x32256x27x128_0_0_0_0) shapeCasts_S2x32256x27x128_S2x21x1536x27x128
theorem frames_at {φ : FTy} (x : FVec Ideal S2x32768x27x128 φ) (b : Fin 2) (f : Fin 21) (q : Fin 1536) (i : Fin 27) (d : Fin 128) :
    frames x (ix5 b f q i d) = x (ix4 b ⟨f.val * 1536 + q.val, by omega⟩ i d) := by
  pointwise [frames]
/-- Frame 0. -/
def frame0 {φ : FTy} (x : FVec Ideal S2x21x1536x27x128 φ) : FVec Ideal S2x1536x27x128 φ :=
  shapeCast S2x1536x27x128 (extractStridedSlice S2x1x1536x27x128 ![0, 0, 0, 0, 0] x slices_S2x21x1536x27x128_S2x1x1536x27x128_0_0_0_0_0) shapeCasts_S2x1x1536x27x128_S2x1536x27x128
theorem frame0_at {φ : FTy} (x : FVec Ideal S2x21x1536x27x128 φ) (b : Fin 2) (q : Fin 1536) (i : Fin 27) (d : Fin 128) :
    frame0 x (ix4 b q i d) = x (ix5 b 0 q i d) := by
  pointwise [frame0]
/-- The text rows. -/
def text {φ : FTy} (x : FVec Ideal S2x32768x27x128 φ) : FVec Ideal S2x512x27x128 φ :=
  extractStridedSlice S2x512x27x128 ![0, 32256, 0, 0] x slices_S2x32768x27x128_S2x512x27x128_0_32256_0_0
theorem text_at {φ : FTy} (x : FVec Ideal S2x32768x27x128 φ) (b : Fin 2) (q : Fin 512) (i : Fin 27) (d : Fin 128) :
    text x (ix4 b q i d) = x (ix4 b ⟨32256 + q.val, by omega⟩ i d) := by
  pointwise [text]
/-- Scores against the frame's own keys. -/
def sOwn (q k : FVec Ideal S2x21x1536x27x128 .f32) (sc : FVec Ideal S2x1x27x1x1 .f32) : FVec Ideal S2x21x27x1536x1536 .f32 :=
  mulf (Host.dotGeneral dot_S2x21x1536x27x128_S2x21x1536x27x128_S2x21x27x1536x1536_4_4_2_2_013_013 none q k)
    (broadcastInDim S2x21x27x1536x1536 ![0, 1, 2, 3, 4] bcast_S2x1x27x1x1_S2x21x27x1536x1536_0_1_2_3_4 sc)
theorem sOwn_at (q k : FVec Ideal S2x21x1536x27x128 .f32) (sc : FVec Ideal S2x1x27x1x1 .f32) (b : Fin 2) (f : Fin 21) (i : Fin 27) (x y : Fin 1536) :
    sOwn q k sc (ix5 b f i x y) = (∑ d : Fin 128, q (ix5 b f x i d) * k (ix5 b f y i d)) * sc (ix5 b 0 i 0 0) := by
  pointwise [sOwn]
/-- Scores against frame 0, before the mask. -/
def sZero (q : FVec Ideal S2x21x1536x27x128 .f32) (k : FVec Ideal S2x1536x27x128 .f32) (sc : FVec Ideal S2x1x27x1x1 .f32) : FVec Ideal S2x21x27x1536x1536 .f32 :=
  mulf (transpose S2x21x27x1536x1536 [0, 3, 1, 4, 2] (Host.dotGeneral dot_S2x1536x27x128_S2x21x1536x27x128_S2x27x1536x21x1536_3_4_1_12_02_03 none k q) transposes_S2x27x1536x21x1536_S2x21x27x1536x1536_0_3_1_4_2)
    (broadcastInDim S2x21x27x1536x1536 ![0, 1, 2, 3, 4] bcast_S2x1x27x1x1_S2x21x27x1536x1536_0_1_2_3_4 sc)
theorem sZero_at (q : FVec Ideal S2x21x1536x27x128 .f32) (k : FVec Ideal S2x1536x27x128 .f32) (sc : FVec Ideal S2x1x27x1x1 .f32) (b : Fin 2) (f : Fin 21) (i : Fin 27) (x y : Fin 1536) :
    sZero q k sc (ix5 b f i x y) = (∑ d : Fin 128, k (ix4 b y i d) * q (ix5 b f x i d)) * sc (ix5 b 0 i 0 0) := by
  pointwise [sZero]
/-- Scores against the text keys. -/
def sText (q : FVec Ideal S2x21x1536x27x128 .f32) (k : FVec Ideal S2x512x27x128 .f32) (sc : FVec Ideal S2x1x27x1x1 .f32) : FVec Ideal S2x21x27x1536x512 .f32 :=
  mulf (transpose S2x21x27x1536x512 [0, 3, 1, 4, 2] (Host.dotGeneral dot_S2x512x27x128_S2x21x1536x27x128_S2x27x512x21x1536_3_4_1_12_02_03 none k q) transposes_S2x27x512x21x1536_S2x21x27x1536x512_0_3_1_4_2)
    (broadcastInDim S2x21x27x1536x512 ![0, 1, 2, 3, 4] bcast_S2x1x27x1x1_S2x21x27x1536x512_0_1_2_3_4 sc)
theorem sText_at (q : FVec Ideal S2x21x1536x27x128 .f32) (k : FVec Ideal S2x512x27x128 .f32) (sc : FVec Ideal S2x1x27x1x1 .f32) (b : Fin 2) (f : Fin 21) (i : Fin 27) (x : Fin 1536) (y : Fin 512) :
    sText q k sc (ix5 b f i x y) = (∑ d : Fin 128, k (ix4 b y i d) * q (ix5 b f x i d)) * sc (ix5 b 0 i 0 0) := by
  pointwise [sText]
/-- Which frame is frame 0. -/
def isFirst : IVec S1x21x1x1x1 1 :=
  broadcastInDim S1x21x1x1x1 ![1] bcast_S21_S1x21x1x1x1_1 (cmpi .eq (iotaInDim S21 32 0) (broadcastInDim S21 ![] bcast_S_S21 (constantI S_ 32 0#32)))
theorem isFirst_at (f : Fin 21) : isFirst (ix5 0 f 0 0 0) = if f = 0 then 1#1 else 0#1 := by
  pointwise [isFirst]
  revert f; decide
/-- Frame 0 does not look at itself twice. -/
def sMask (p : IVec S1x21x1x1x1 1) (n : FVec Ideal S_ .f32) (s : FVec Ideal S2x21x27x1536x1536 .f32) : FVec Ideal S2x21x27x1536x1536 .f32 :=
  select (broadcastInDim S2x21x27x1536x1536 ![0, 1, 2, 3, 4] bcast_S1x21x1x1x1_S2x21x27x1536x1536_0_1_2_3_4 p)
    (broadcastInDim S2x21x27x1536x1536 ![] bcast_S_S2x21x27x1536x1536 (id n)) s
theorem sMask_at (n : FVec Ideal S_ .f32) (s : FVec Ideal S2x21x27x1536x1536 .f32) (b : Fin 2) (f : Fin 21) (i : Fin 27) (x y : Fin 1536) :
    sMask isFirst n s (ix5 b f i x y) = if f = 0 then n ix0 else s (ix5 b f i x y) := by
  pointwise [sMask]
  rw [isFirst_at]
  split <;> rfl
/-- The largest score of each query, of one group of keys. -/
def redW (a : FVec Ideal S2x21x27x1536x1536 .f32) : FVec Ideal S2x21x27x1536 .f32 :=
  Host.reduce FloatOps.maximumf a (constant S_ FTy.f32 4286578688#32) reducesTo_S2x21x27x1536x1536_S2x21x27x1536_d4 h_S_
def redT (a : FVec Ideal S2x21x27x1536x512 .f32) : FVec Ideal S2x21x27x1536 .f32 :=
  Host.reduce FloatOps.maximumf a (constant S_ FTy.f32 4286578688#32) reducesTo_S2x21x27x1536x512_S2x21x27x1536_d4 h_S_
/-- The largest of three, as a column. -/
def max3 (A B C : FVec Ideal S2x21x27x1536 .f32) : FVec Ideal S2x21x27x1536x1 .f32 :=
  maximumf (maximumf
    (broadcastInDim S2x21x27x1536x1 ![0, 1, 2, 3] bcast_S2x21x27x1536_S2x21x27x1536x1_0_1_2_3 A)
    (broadcastInDim S2x21x27x1536x1 ![0, 1, 2, 3] bcast_S2x21x27x1536_S2x21x27x1536x1_0_1_2_3 B))
    (broadcastInDim S2x21x27x1536x1 ![0, 1, 2, 3] bcast_S2x21x27x1536_S2x21x27x1536x1_0_1_2_3 C)
theorem max3_at (A B C : FVec Ideal S2x21x27x1536 .f32) (b : Fin 2) (f : Fin 21) (i : Fin 27) (x : Fin 1536) :
    max3 A B C (ix5 b f i x 0) = max (max (A (ix4 b f i x)) (B (ix4 b f i x))) (C (ix4 b f i x)) := by
  pointwise [max3]
/-- The largest score of each query. -/
def rowMax (a z : FVec Ideal S2x21x27x1536x1536 .f32) (t : FVec Ideal S2x21x27x1536x512 .f32) : FVec Ideal S2x21x27x1536x1 .f32 :=
  max3 (redW a) (redW z) (redT t)
theorem const_bot : constant (F := Ideal) S_ FTy.f32 4286578688#32 = fun _ => ⊥ := by
  funext _; simp [constant, Ideal.ofBits, Ideal.ieee]
theorem first_eq : Shape.Idx.first h_S_ = ix0 := funext fun k => k.elim0
theorem reduceW_at (a : FVec Ideal S2x21x27x1536x1536 .f32) (n : FVec Ideal S_ .f32) (b : Fin 2) (f : Fin 21) (i : Fin 27) (x : Fin 1536) :
    Host.reduce FloatOps.maximumf a n reducesTo_S2x21x27x1536x1536_S2x21x27x1536_d4 h_S_ (ix4 b f i x) = Finset.univ.fold max (n ix0) fun y : Fin 1536 => a (ix5 b f i x y) := by
  pointwise
  rw [first_eq]
theorem reduceT_at (a : FVec Ideal S2x21x27x1536x512 .f32) (n : FVec Ideal S_ .f32) (b : Fin 2) (f : Fin 21) (i : Fin 27) (x : Fin 1536) :
    Host.reduce FloatOps.maximumf a n reducesTo_S2x21x27x1536x512_S2x21x27x1536_d4 h_S_ (ix4 b f i x) = Finset.univ.fold max (n ix0) fun y : Fin 512 => a (ix5 b f i x y) := by
  pointwise
  rw [first_eq]
theorem redW_at (a : FVec Ideal S2x21x27x1536x1536 .f32) (b : Fin 2) (f : Fin 21) (i : Fin 27) (x : Fin 1536) :
    redW a (ix4 b f i x) = Finset.univ.fold max ⊥ fun y : Fin 1536 => a (ix5 b f i x y) := by
  unfold redW
  rw [const_bot]
  exact reduceW_at a (fun _ => ⊥) b f i x
theorem redT_at (a : FVec Ideal S2x21x27x1536x512 .f32) (b : Fin 2) (f : Fin 21) (i : Fin 27) (x : Fin 1536) :
    redT a (ix4 b f i x) = Finset.univ.fold max ⊥ fun y : Fin 512 => a (ix5 b f i x y) := by
  unfold redT
  rw [const_bot]
  exact reduceT_at a (fun _ => ⊥) b f i x
theorem rowMax_at (a z : FVec Ideal S2x21x27x1536x1536 .f32) (t : FVec Ideal S2x21x27x1536x512 .f32) (b : Fin 2) (f : Fin 21) (i : Fin 27) (x : Fin 1536) :
    rowMax a z t (ix5 b f i x 0) = max (max (Finset.univ.fold max ⊥ fun y : Fin 1536 => a (ix5 b f i x y)) (Finset.univ.fold max ⊥ fun y : Fin 1536 => z (ix5 b f i x y))) (Finset.univ.fold max ⊥ fun y : Fin 512 => t (ix5 b f i x y)) := by
  unfold rowMax
  rw [max3_at, redW_at, redW_at, redT_at]
/-- The exponentials of one group of scores. -/
def expW (s : FVec Ideal S2x21x27x1536x1536 .f32) (m : FVec Ideal S2x21x27x1536x1 .f32) : FVec Ideal S2x21x27x1536x1536 .f32 :=
  Host.exp (subf s (broadcastInDim S2x21x27x1536x1536 ![0, 1, 2, 3, 4] bcast_S2x21x27x1536x1_S2x21x27x1536x1536_0_1_2_3_4 m))
theorem expW_at (s : FVec Ideal S2x21x27x1536x1536 .f32) (m : FVec Ideal S2x21x27x1536x1 .f32) (b : Fin 2) (f : Fin 21) (i : Fin 27) (x y : Fin 1536) :
    expW s m (ix5 b f i x y) = Ideal.exp (s (ix5 b f i x y) - m (ix5 b f i x 0)) := by
  pointwise [expW]
def expT (s : FVec Ideal S2x21x27x1536x512 .f32) (m : FVec Ideal S2x21x27x1536x1 .f32) : FVec Ideal S2x21x27x1536x512 .f32 :=
  Host.exp (subf s (broadcastInDim S2x21x27x1536x512 ![0, 1, 2, 3, 4] bcast_S2x21x27x1536x1_S2x21x27x1536x512_0_1_2_3_4 m))
theorem expT_at (s : FVec Ideal S2x21x27x1536x512 .f32) (m : FVec Ideal S2x21x27x1536x1 .f32) (b : Fin 2) (f : Fin 21) (i : Fin 27) (x : Fin 1536) (y : Fin 512) :
    expT s m (ix5 b f i x y) = Ideal.exp (s (ix5 b f i x y) - m (ix5 b f i x 0)) := by
  pointwise [expT]
/-- One over the sum of the exponentials. -/
def invTotal (a z : FVec Ideal S2x21x27x1536x1536 .f32) (t : FVec Ideal S2x21x27x1536x512 .f32) : FVec Ideal S2x21x27x1536x1 .f32 :=
  Host.divf (broadcastInDim S2x21x27x1536x1 ![] bcast_S_S2x21x27x1536x1 (constant S_ FTy.f32 1065353216#32)) (addf (addf
    (broadcastInDim S2x21x27x1536x1 ![0, 1, 2, 3] bcast_S2x21x27x1536_S2x21x27x1536x1_0_1_2_3 (Host.reduceAdd a (constant S_ FTy.f32 0#32) reducesTo_S2x21x27x1536x1536_S2x21x27x1536_d4 h_S_))
    (broadcastInDim S2x21x27x1536x1 ![0, 1, 2, 3] bcast_S2x21x27x1536_S2x21x27x1536x1_0_1_2_3 (Host.reduceAdd z (constant S_ FTy.f32 0#32) reducesTo_S2x21x27x1536x1536_S2x21x27x1536_d4 h_S_)))
    (broadcastInDim S2x21x27x1536x1 ![0, 1, 2, 3] bcast_S2x21x27x1536_S2x21x27x1536x1_0_1_2_3 (Host.reduceAdd t (constant S_ FTy.f32 0#32) reducesTo_S2x21x27x1536x512_S2x21x27x1536_d4 h_S_)))
theorem invTotal_at (a z : FVec Ideal S2x21x27x1536x1536 .f32) (t : FVec Ideal S2x21x27x1536x512 .f32) (b : Fin 2) (f : Fin 21) (i : Fin 27) (x : Fin 1536) :
    invTotal a z t (ix5 b f i x 0) = Ideal.div 1 ((∑ y : Fin 1536, a (ix5 b f i x y)) + (∑ y : Fin 1536, z (ix5 b f i x y)) + ∑ y : Fin 512, t (ix5 b f i x y)) := by
  pointwise [invTotal]
/-- The probabilities of one group of keys, rounded. -/
def probW (e : FVec Ideal S2x21x27x1536x1536 .f32) (v : FVec Ideal S2x21x27x1536x1 .f32) : FVec Ideal S2x21x27x1536x1536 .bf16 :=
  truncf .bf16 (mulf e (broadcastInDim S2x21x27x1536x1536 ![0, 1, 2, 3, 4] bcast_S2x21x27x1536x1_S2x21x27x1536x1536_0_1_2_3_4 v)) bitsLt_bf16_f32
theorem probW_at (e : FVec Ideal S2x21x27x1536x1536 .f32) (v : FVec Ideal S2x21x27x1536x1 .f32) (b : Fin 2) (f : Fin 21) (i : Fin 27) (x y : Fin 1536) :
    probW e v (ix5 b f i x y) = e (ix5 b f i x y) * v (ix5 b f i x 0) := by
  pointwise [probW]
def probT (e : FVec Ideal S2x21x27x1536x512 .f32) (v : FVec Ideal S2x21x27x1536x1 .f32) : FVec Ideal S2x21x27x1536x512 .bf16 :=
  truncf .bf16 (mulf e (broadcastInDim S2x21x27x1536x512 ![0, 1, 2, 3, 4] bcast_S2x21x27x1536x1_S2x21x27x1536x512_0_1_2_3_4 v)) bitsLt_bf16_f32
theorem probT_at (e : FVec Ideal S2x21x27x1536x512 .f32) (v : FVec Ideal S2x21x27x1536x1 .f32) (b : Fin 2) (f : Fin 21) (i : Fin 27) (x : Fin 1536) (y : Fin 512) :
    probT e v (ix5 b f i x y) = e (ix5 b f i x y) * v (ix5 b f i x 0) := by
  pointwise [probT]
/-- The values of the frame, weighted. -/
def oOwn (v : FVec Ideal S2x21x1536x27x128 .bf16) (p : FVec Ideal S2x21x27x1536x1536 .bf16) : FVec Ideal S2x21x1536x27x128 .f32 :=
  transpose S2x21x1536x27x128 [0, 1, 4, 2, 3] (Host.dotGeneral dot_S2x21x1536x27x128_S2x21x27x1536x1536_S2x21x27x128x1536_2_4_4_3_013_012 none v p) transposes_S2x21x27x128x1536_S2x21x1536x27x128_0_1_4_2_3
theorem oOwn_at (v : FVec Ideal S2x21x1536x27x128 .bf16) (p : FVec Ideal S2x21x27x1536x1536 .bf16) (b : Fin 2) (f : Fin 21) (x : Fin 1536) (i : Fin 27) (d : Fin 128) :
    oOwn v p (ix5 b f x i d) = ∑ y : Fin 1536, v (ix5 b f y i d) * p (ix5 b f i x y) := by
  pointwise [oOwn]
def oZero (v : FVec Ideal S2x1536x27x128 .bf16) (p : FVec Ideal S2x21x27x1536x1536 .bf16) : FVec Ideal S2x21x1536x27x128 .f32 :=
  transpose S2x21x1536x27x128 [0, 3, 4, 1, 2] (Host.dotGeneral dot_S2x1536x27x128_S2x21x27x1536x1536_S2x27x128x21x1536_1_4_3_13_02_02 none v p) transposes_S2x27x128x21x1536_S2x21x1536x27x128_0_3_4_1_2
theorem oZero_at (v : FVec Ideal S2x1536x27x128 .bf16) (p : FVec Ideal S2x21x27x1536x1536 .bf16) (b : Fin 2) (f : Fin 21) (x : Fin 1536) (i : Fin 27) (d : Fin 128) :
    oZero v p (ix5 b f x i d) = ∑ y : Fin 1536, v (ix4 b y i d) * p (ix5 b f i x y) := by
  pointwise [oZero]
def oText (v : FVec Ideal S2x512x27x128 .bf16) (p : FVec Ideal S2x21x27x1536x512 .bf16) : FVec Ideal S2x21x1536x27x128 .f32 :=
  transpose S2x21x1536x27x128 [0, 3, 4, 1, 2] (Host.dotGeneral dot_S2x512x27x128_S2x21x27x1536x512_S2x27x128x21x1536_1_4_3_13_02_02 none v p) transposes_S2x27x128x21x1536_S2x21x1536x27x128_0_3_4_1_2
theorem oText_at (v : FVec Ideal S2x512x27x128 .bf16) (p : FVec Ideal S2x21x27x1536x512 .bf16) (b : Fin 2) (f : Fin 21) (x : Fin 1536) (i : Fin 27) (d : Fin 128) :
    oText v p (ix5 b f x i d) = ∑ y : Fin 512, v (ix4 b y i d) * p (ix5 b f i x y) := by
  pointwise [oText]
/-- The three sums together, scaled, rounded and laid out as the result. -/
def result (a z t : FVec Ideal S2x21x1536x27x128 .f32) (vs : FVec Ideal S2x1x1x27x1 .f32) : FVec Ideal S2x32256x3456 .bf16 :=
  shapeCast S2x32256x3456 (truncf .bf16 (mulf (addf (addf a z) t) (broadcastInDim S2x21x1536x27x128 ![0, 1, 2, 3, 4] bcast_S2x1x1x27x1_S2x21x1536x27x128_0_1_2_3_4 vs)) bitsLt_bf16_f32) shapeCasts_S2x21x1536x27x128_S2x32256x3456
theorem result_at (a z t : FVec Ideal S2x21x1536x27x128 .f32) (vs : FVec Ideal S2x1x1x27x1 .f32) (b : Fin 2) (f : Fin 21) (x : Fin 1536) (i : Fin 27) (d : Fin 128) :
    result a z t vs (ix3 b ⟨f.val * 1536 + x.val, by omega⟩ ⟨i.val * 128 + d.val, by omega⟩)
      = (a (ix5 b f x i d) + z (ix5 b f x i d) + t (ix5 b f x i d)) * vs (ix5 b 0 0 i 0) := by
  unfold result
  rw [show shapeCast S2x32256x3456 (truncf .bf16 (mulf (addf (addf a z) t) (broadcastInDim S2x21x1536x27x128 ![0, 1, 2, 3, 4] bcast_S2x1x1x27x1_S2x21x1536x27x128_0_1_2_3_4 vs)) bitsLt_bf16_f32) shapeCasts_S2x21x1536x27x128_S2x32256x3456 (ix3 b ⟨f.val * 1536 + x.val, by omega⟩ ⟨i.val * 128 + d.val, by omega⟩) = (truncf .bf16 (mulf (addf (addf a z) t) (broadcastInDim S2x21x1536x27x128 ![0, 1, 2, 3, 4] bcast_S2x1x1x27x1_S2x21x1536x27x128_0_1_2_3_4 vs)) bitsLt_bf16_f32) (ix5 b f x i d) from by
    pointwise]
  pointwise
def scaleO (a : FVec Ideal S2x27 .f32) : FVec Ideal S2x1x1x27x1 .f32 :=
  broadcastInDim S2x1x1x27x1 ![0, 3] bcast_S2x27_S2x1x1x27x1_0_3 a
theorem scaleO_at (a : FVec Ideal S2x27 .f32) (b : Fin 2) (i : Fin 27) : scaleO a (ix5 b 0 0 i 0) = a (ix2 b i) := by
  pointwise [scaleO]
set_option maxHeartbeats 1600000
variable (W : Valuation τ sig (Elt Ideal))
theorem op6 : StableHlo.after hostOps1_6 W (Proc.devRef .tc main_v10) = scaleV (W (Proc.devRef .tc main_v5)) (W (Proc.devRef .tc main_v6)) := by
  after_results_simp; rfl
theorem op8_own : StableHlo.after hostOps1_8 W (Proc.devRef .tc main_v31) = sOwn (frames (W (Proc.devRef .tc main_v2))) (frames (W (Proc.devRef .tc main_v3))) (W (Proc.devRef .tc main_v10)) := by
  after_results_simp; rfl
theorem op8_zero : StableHlo.after hostOps1_8 W (Proc.devRef .tc main_v35) = sZero (frames (W (Proc.devRef .tc main_v2))) (frame0 (frames (W (Proc.devRef .tc main_v3)))) (W (Proc.devRef .tc main_v10)) := by
  after_results_simp; rfl
theorem op8_v12 : StableHlo.after hostOps1_8 W (Proc.devRef .tc main_v12) = scaleO (W (Proc.devRef .tc main_v11)) := by
  after_results_simp; rfl
theorem op8_q : StableHlo.after hostOps1_8 W (Proc.devRef .tc main_v14) = frames (φ := .f32) (W (Proc.devRef .tc main_v2)) := by
  after_results_simp; rfl
theorem op8_v : StableHlo.after hostOps1_8 W (Proc.devRef .tc main_v18) = frames (φ := .bf16) (W (Proc.devRef .tc main_v4)) := by
  after_results_simp; rfl
theorem op8_v0 : StableHlo.after hostOps1_8 W (Proc.devRef .tc main_v22) = frame0 (φ := .bf16) (frames (φ := .bf16) (W (Proc.devRef .tc main_v4))) := by
  after_results_simp; rfl
theorem op8_kt : StableHlo.after hostOps1_8 W (Proc.devRef .tc main_v23) = text (φ := .f32) (W (Proc.devRef .tc main_v3)) := by
  after_results_simp; rfl
theorem op8_vt : StableHlo.after hostOps1_8 W (Proc.devRef .tc main_v24) = text (φ := .bf16) (W (Proc.devRef .tc main_v4)) := by
  after_results_simp; rfl
theorem op8_first : StableHlo.after hostOps1_8 W (Proc.devRef .tc main_v28) = isFirst := by
  after_results_simp; rfl
theorem op8_bot : StableHlo.after hostOps1_8 W (Proc.devRef .tc main_cst_0) = constant (F := Ideal) S_ .f32 4286578688#32 := by
  after_results_simp
theorem op9 : StableHlo.after hostOps1_9 W (Proc.devRef .tc main_v36) = sMask (W (Proc.devRef .tc main_v28)) (W (Proc.devRef .tc main_cst_0)) (W (Proc.devRef .tc main_v35)) := by
  after_results_simp; rfl
end Cert.RefIdeal.Value
-- ==== Proof.RefTake.lean ====
module
public import proofs.«01_k».proof.Proof.Gen.RefIdeal.Frame
public import Idealize.ShloMosaic.Lib.Pipeline.ValueKit
@[expose] public section
set_option maxRecDepth 16384
noncomputable section
/-! The reference's gathers of heads, read at an index. -/
namespace Cert.RefIdeal.Value
open Cert.RefIdeal Cert.RefIdeal.Gen
open Idealize.ShloMosaic Idealize.ShloMosaic.TcCoe
open Idealize.SL.Sem

/-- The head numbers as the gathers take them: a negative one counts from the end. -/
def headIdx (h : IVec S27 32) : IVec S27x1 32 :=
  broadcastInDim S27x1 ![0] bcast_S27_S27x1_0 (select (cmpi .slt h (broadcastInDim S27 ![] bcast_S_S27 (constantI S_ 32 0#32)))
    (addi h (broadcastInDim S27 ![] bcast_S_S27 (constantI S_ 32 40#32))) h)
/-- Which head numbers are in range. -/
def inRange (x : IVec S27x1 32) : IVec S27 1 :=
  Host.reduce IntOp.andi (andi (cmpi .sge x (broadcastInDim S27x1 ![] bcast_S_S27x1 (constantI S_ 32 0#32)))
    (cmpi .sle x (broadcastInDim S27x1 ![0, 1] bcast_S1x1_S27x1_0_1 (broadcastInDim S1x1 ![1] bcast_S1_S1x1_1 (constantI S1 32 39#32)))))
    (constantI S_ 1 1#1) reducesTo_S27x1_S27_d1 h_S_
/-- A head that is in range, as an index. -/
def headOf (h : IVec S27 32) (i : Fin 27) : Fin 40 := ⟨min (h (ix1 i)).toNat 39, by omega⟩

theorem toInt_of_lt {b : BitVec 32} (h : b.toNat < 40) : b.toInt = b.toNat := by
  rw [BitVec.toInt_eq_toNat_cond]; split <;> omega
theorem headIdx_at (h : IVec S27 32) (i : Fin 27) (hi : (h (ix1 i)).toNat < 40) : headIdx h (ix2 i 0) = h (ix1 i) := by
  have e : (h (ix1 i)).slt 0#32 = false := by
    rw [BitVec.slt, toInt_of_lt hi]; simp
  pointwise [headIdx]
  simp [IntOp.cmpi, e, Scalar.select]
theorem inRange_at (x : IVec S27x1 32) (i : Fin 27) (hi : (x (ix2 i 0)).toNat < 40) : inRange x (ix1 i) = 1#1 := by
  have e : (0#32).sle (x (ix2 i 0)) = true := by
    rw [BitVec.sle, toInt_of_lt hi]; simp
  have e' : (x (ix2 i 0)).sle 39#32 = true := by
    rw [BitVec.sle, toInt_of_lt hi]; simp; omega
  pointwise [inRange]
  simp [IntOp.cmpi, IntOp.andi, e, e']
/-- The gather of heads of a code array, at an index. -/
theorem gather4_at {α : Type} (x : S2x32768x40x128.Idx → α) (p : IVec S27x1 32) (b : Fin 2) (t : Fin 32768) (i : Fin 27) (d : Fin 128) :
    Host.gather gather_S2x32768x40x128_S27x1_S2x32768x27x128_013_2_n_n_2_1_2327681128 x p (ix4 b t i d)
      = x (ix4 b t ⟨min (p (ix2 i 0)).toInt.toNat 39, by omega⟩ d) := by
  unfold Host.gather
  congr 1
  funext a
  refine Fin.ext ?_
  show (gather_S2x32768x40x128_S27x1_S2x32768x27x128_013_2_n_n_2_1_2327681128).start (ix4 b t i d) p a + (gather_S2x32768x40x128_S27x1_S2x32768x27x128_013_2_n_n_2_1_2327681128).batchCoord (ix4 b t i d) a + (gather_S2x32768x40x128_S27x1_S2x32768x27x128_013_2_n_n_2_1_2327681128).offCoord (ix4 b t i d) a = _
  rw [GatherDims.batchCoord_eq_zero _ _ _ List.not_mem_nil]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [show (gather_S2x32768x40x128_S27x1_S2x32768x27x128_013_2_n_n_2_1_2327681128).start (ix4 b t i d) p 0 = 0 from by unfold GatherDims.start; rw [dif_neg (by decide)], Nat.zero_add]
    unfold GatherDims.offCoord
    rw [dif_pos ((GatherDims.mem_sKept _ _).mpr ⟨by decide, List.not_mem_nil⟩)]
    rfl
  · rw [show (gather_S2x32768x40x128_S27x1_S2x32768x27x128_013_2_n_n_2_1_2327681128).start (ix4 b t i d) p 1 = 0 from by unfold GatherDims.start; rw [dif_neg (by decide)], Nat.zero_add]
    unfold GatherDims.offCoord
    rw [dif_pos ((GatherDims.mem_sKept _ _).mpr ⟨by decide, List.not_mem_nil⟩)]
    rfl
  · rw [GatherDims.offCoord_eq_zero _ _ _ (fun h => ((GatherDims.mem_sKept _ _).mp h).1 (List.mem_singleton.mpr rfl))]
    simp only [Nat.add_zero]
    unfold GatherDims.start
    rw [dif_pos (show (2 : Fin 4) ∈ (gather_S2x32768x40x128_S27x1_S2x32768x27x128_013_2_n_n_2_1_2327681128).startIndexMap from List.mem_singleton.mpr rfl)]
    have hsi : (gather_S2x32768x40x128_S27x1_S2x32768x27x128_013_2_n_n_2_1_2327681128).siIdx (ix4 b t i d) ⟨List.idxOf (2 : Fin 4) (gather_S2x32768x40x128_S27x1_S2x32768x27x128_013_2_n_n_2_1_2327681128).startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  · rw [show (gather_S2x32768x40x128_S27x1_S2x32768x27x128_013_2_n_n_2_1_2327681128).start (ix4 b t i d) p 3 = 0 from by unfold GatherDims.start; rw [dif_neg (by decide)], Nat.zero_add]
    unfold GatherDims.offCoord
    rw [dif_pos ((GatherDims.mem_sKept _ _).mpr ⟨by decide, List.not_mem_nil⟩)]
    rfl
/-- The gather of heads of a scale array, at an index. -/
theorem gather2_at {α : Type} (x : S2x40.Idx → α) (p : IVec S27x1 32) (b : Fin 2) (i : Fin 27) :
    Host.gather gather_S2x40_S27x1_S2x27_0_1_n_n_1_1_21 x p (ix2 b i)
      = x (ix2 b ⟨min (p (ix2 i 0)).toInt.toNat 39, by omega⟩) := by
  unfold Host.gather
  congr 1
  funext a
  refine Fin.ext ?_
  show (gather_S2x40_S27x1_S2x27_0_1_n_n_1_1_21).start (ix2 b i) p a + (gather_S2x40_S27x1_S2x27_0_1_n_n_1_1_21).batchCoord (ix2 b i) a + (gather_S2x40_S27x1_S2x27_0_1_n_n_1_1_21).offCoord (ix2 b i) a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [show (gather_S2x40_S27x1_S2x27_0_1_n_n_1_1_21).start (ix2 b i) p 0 = 0 from by unfold GatherDims.start; rw [dif_neg (by decide)], Nat.zero_add]
    unfold GatherDims.offCoord
    rw [dif_pos ((GatherDims.mem_sKept _ _).mpr ⟨by decide, List.not_mem_nil⟩)]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S2x40_S27x1_S2x27_0_1_n_n_1_1_21).startIndexMap from List.mem_singleton.mpr rfl)]
    have hsi : (gather_S2x40_S27x1_S2x27_0_1_n_n_1_1_21).siIdx (ix2 b i) ⟨List.idxOf (1 : Fin 2) (gather_S2x40_S27x1_S2x27_0_1_n_n_1_1_21).startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
/-- The gather of heads with its guard, of a code array. -/
def take4 {φ : FTy} (x : S2x32768x40x128.Idx → Ideal φ) (h : IVec S27 32) (n : FVec Ideal S_ φ) : FVec Ideal S2x32768x27x128 φ :=
  select (broadcastInDim S2x32768x27x128 ![2] bcast_S27_S2x32768x27x128_2 (inRange (headIdx h)))
    (Host.gather gather_S2x32768x40x128_S27x1_S2x32768x27x128_013_2_n_n_2_1_2327681128 x (headIdx h))
    (broadcastInDim S2x32768x27x128 ![] bcast_S_S2x32768x27x128 n)
def take2 (x : S2x40.Idx → Ideal .f32) (h : IVec S27 32) (n : FVec Ideal S_ .f32) : FVec Ideal S2x27 .f32 :=
  select (broadcastInDim S2x27 ![1] bcast_S27_S2x27_1 (inRange (headIdx h)))
    (Host.gather gather_S2x40_S27x1_S2x27_0_1_n_n_1_1_21 x (headIdx h))
    (broadcastInDim S2x27 ![] bcast_S_S2x27 n)
theorem take4_at {φ : FTy} (x : S2x32768x40x128.Idx → Ideal φ) (h : IVec S27 32) (n : FVec Ideal S_ φ) (b : Fin 2) (t : Fin 32768) (i : Fin 27) (d : Fin 128)
    (hi : (h (ix1 i)).toNat < 40) : take4 x h n (ix4 b t i d) = x (ix4 b t (headOf h i) d) := by
  have e := headIdx_at h i hi
  pointwise [take4]
  rw [inRange_at _ _ (by rw [e]; exact hi), gather4_at]
  have e2 : (⟨min (headIdx h (ix2 i 0)).toInt.toNat 39, by omega⟩ : Fin 40) = headOf h i := by
    apply Fin.ext; show min _ _ = min _ _; rw [e, toInt_of_lt hi]; simp
  rw [e2]; rfl
theorem take2_at (x : S2x40.Idx → Ideal .f32) (h : IVec S27 32) (n : FVec Ideal S_ .f32) (b : Fin 2) (i : Fin 27)
    (hi : (h (ix1 i)).toNat < 40) : take2 x h n (ix2 b i) = x (ix2 b (headOf h i)) := by
  have e := headIdx_at h i hi
  pointwise [take2]
  rw [inRange_at _ _ (by rw [e]; exact hi), gather2_at]
  have e2 : (⟨min (headIdx h (ix2 i 0)).toInt.toNat 39, by omega⟩ : Fin 40) = headOf h i := by
    apply Fin.ext; show min _ _ = min _ _; rw [e, toInt_of_lt hi]; simp
  rw [e2]; rfl
set_option maxHeartbeats 1600000
variable (W : Valuation τ sig (Elt Ideal))
theorem op0 : StableHlo.after hostOps1 W (Proc.devRef .tc main_v1) = extractStridedSlice S27 ![0] (W (Proc.devRef .tc main_arg6)) slices_S40_S27_0 := by
  after_results_simp
theorem op1 : StableHlo.after hostOps1_1 W (Proc.devRef .tc main_v2) = take4 (φ := .f32) (W (Proc.devRef .tc main_v0_0)) (W (Proc.devRef .tc main_v1)) (constant (F := Ideal) S_ .f32 0x7FC00000#32) := by
  after_results_simp; rfl
theorem op2 : StableHlo.after hostOps1_2 W (Proc.devRef .tc main_v3) = take4 (φ := .f32) (W (Proc.devRef .tc main_v0_1)) (W (Proc.devRef .tc main_v1)) (constant (F := Ideal) S_ .f32 0x7FC00000#32) := by
  after_results_simp; rfl
theorem op3 : StableHlo.after hostOps1_3 W (Proc.devRef .tc main_v4) = take4 (φ := .bf16) (W (Proc.devRef .tc main_v0_2)) (W (Proc.devRef .tc main_v1)) (constant (F := Ideal) S_ .bf16 0x7FC0#16) := by
  after_results_simp; rfl
theorem op4 : StableHlo.after hostOps1_4 W (Proc.devRef .tc main_v5) = take2 (W (Proc.devRef .tc main_arg3)) (W (Proc.devRef .tc main_v1)) (constant (F := Ideal) S_ .f32 0x7FC00000#32) := by
  after_results_simp; rfl
theorem op5 : StableHlo.after hostOps1_5 W (Proc.devRef .tc main_v6) = take2 (W (Proc.devRef .tc main_arg4)) (W (Proc.devRef .tc main_v1)) (constant (F := Ideal) S_ .f32 0x7FC00000#32) := by
  after_results_simp; rfl
theorem op7 : StableHlo.after hostOps1_7 W (Proc.devRef .tc main_v11) = take2 (W (Proc.devRef .tc main_arg5)) (W (Proc.devRef .tc main_v1)) (constant (F := Ideal) S_ .f32 0x7FC00000#32) := by
  after_results_simp; rfl
end Cert.RefIdeal.Value
-- ==== Proof.RefTail.lean ====
module
public import proofs.«01_k».proof.Proof.RefVal
public import proofs.«01_k».proof.Proof.RefTake
public import Idealize.ShloMosaic.Lib.Pipeline.ValueKit
@[expose] public section
set_option maxRecDepth 16384
noncomputable section
/-! The reference's result array. -/
namespace Cert.RefIdeal.Value
open Cert.RefIdeal Cert.RefIdeal.Gen
open Idealize.ShloMosaic Idealize.ShloMosaic.TcCoe
open Idealize.SL.Sem

set_option maxHeartbeats 1600000
variable (W : Valuation τ sig (Elt Ideal))
/-- The last stage as a function of the scores and the values. -/
def final (a z : FVec Ideal S2x21x27x1536x1536 .f32) (t : FVec Ideal S2x21x27x1536x512 .f32) (v : FVec Ideal S2x21x1536x27x128 .bf16) (v0 : FVec Ideal S2x1536x27x128 .bf16)
    (vt : FVec Ideal S2x512x27x128 .bf16) (vs : FVec Ideal S2x1x1x27x1 .f32) : FVec Ideal S2x32256x3456 .bf16 :=
  let m := rowMax a z t
  let w := invTotal (expW a m) (expW z m) (expT t m)
  result (oOwn v (probW (expW a m) w)) (oZero v0 (probW (expW z m) w)) (oText vt (probT (expT t m) w)) vs
theorem op10 : StableHlo.after hostOps1_10 W (Proc.devRef .tc main_v88) = final (W (Proc.devRef .tc main_v31)) (W (Proc.devRef .tc main_v36))
    (sText (W (Proc.devRef .tc main_v14)) (W (Proc.devRef .tc main_v23)) (W (Proc.devRef .tc main_v10))) (W (Proc.devRef .tc main_v18)) (W (Proc.devRef .tc main_v22)) (W (Proc.devRef .tc main_v24)) (W (Proc.devRef .tc main_v12)) := by
  after_results_simp; rfl
end Cert.RefIdeal.Value
-- ==== Proof.RefResult.lean ====
module
public import proofs.«01_k».proof.Proof.RefTail
public import proofs.«01_k».proof.Proof.Spec
@[expose] public section
set_option maxRecDepth 16384
noncomputable section
/-! The reference's result at an index, from the decoded arrays. -/
namespace Cert.RefIdeal.Value
open Cert.RefIdeal Cert.RefIdeal.Gen
open Cert.KernelIdeal.Value (spec refRow vidRow txtRow scoreScale)
open Idealize.ShloMosaic Idealize.ShloMosaic.TcCoe
open Idealize.SL.Sem

set_option maxHeartbeats 1600000
theorem final_at (a z : FVec Ideal S2x21x27x1536x1536 .f32) (t : FVec Ideal S2x21x27x1536x512 .f32) (v : FVec Ideal S2x21x1536x27x128 .bf16) (v0 : FVec Ideal S2x1536x27x128 .bf16)
    (vt : FVec Ideal S2x512x27x128 .bf16) (vs : FVec Ideal S2x1x1x27x1 .f32) (b : Fin 2) (f : Fin 21) (x : Fin 1536) (i : Fin 27) (d : Fin 128) :
    final a z t v v0 vt vs (ix3 b ⟨f.val * 1536 + x.val, by omega⟩ ⟨i.val * 128 + d.val, by omega⟩)
      = refRow (fun y => a (ix5 b f i x y)) (fun y => z (ix5 b f i x y)) (fun y => t (ix5 b f i x y)) (fun y => v (ix5 b f y i d)) (fun y => v0 (ix4 b y i d))
          (fun y => vt (ix4 b y i d)) (vs (ix5 b 0 0 i 0)) := by
  unfold final refRow
  simp only [result_at, oOwn_at, oZero_at, oText_at, probW_at, probT_at, invTotal_at, expW_at, expT_at, rowMax_at]

variable (W : Valuation τ sig (Elt Ideal))
/-- The buffers as the reference's lines of operations leave them, line by line. -/
def W1 := StableHlo.after hostOps1 W
def W2 := StableHlo.after hostOps1_1 (W1 W)
def W3 := StableHlo.after hostOps1_2 (W2 W)
def W4 := StableHlo.after hostOps1_3 (W3 W)
def W5 := StableHlo.after hostOps1_4 (W4 W)
def W6 := StableHlo.after hostOps1_5 (W5 W)
def W7 := StableHlo.after hostOps1_6 (W6 W)
def W8 := StableHlo.after hostOps1_7 (W7 W)
def W9 := StableHlo.after hostOps1_8 (W8 W)
def W10 := StableHlo.after hostOps1_9 (W9 W)
theorem keep1 (r : Ref sig .tc) (h : r ∉ hostOps1_W) : W1 W (Proc.devRef .tc r) = W (Proc.devRef .tc r) := StableHlo.after_of_writes_sub (r := r) hostOps1 _ hostOps1_writes h
theorem keep2 (r : Ref sig .tc) (h : r ∉ hostOps1_1_W) : W2 W (Proc.devRef .tc r) = W1 W (Proc.devRef .tc r) := StableHlo.after_of_writes_sub (r := r) hostOps1_1 _ hostOps1_1_writes h
theorem keep3 (r : Ref sig .tc) (h : r ∉ hostOps1_2_W) : W3 W (Proc.devRef .tc r) = W2 W (Proc.devRef .tc r) := StableHlo.after_of_writes_sub (r := r) hostOps1_2 _ hostOps1_2_writes h
theorem keep4 (r : Ref sig .tc) (h : r ∉ hostOps1_3_W) : W4 W (Proc.devRef .tc r) = W3 W (Proc.devRef .tc r) := StableHlo.after_of_writes_sub (r := r) hostOps1_3 _ hostOps1_3_writes h
theorem keep5 (r : Ref sig .tc) (h : r ∉ hostOps1_4_W) : W5 W (Proc.devRef .tc r) = W4 W (Proc.devRef .tc r) := StableHlo.after_of_writes_sub (r := r) hostOps1_4 _ hostOps1_4_writes h
theorem keep6 (r : Ref sig .tc) (h : r ∉ hostOps1_5_W) : W6 W (Proc.devRef .tc r) = W5 W (Proc.devRef .tc r) := StableHlo.after_of_writes_sub (r := r) hostOps1_5 _ hostOps1_5_writes h
theorem keep7 (r : Ref sig .tc) (h : r ∉ hostOps1_6_W) : W7 W (Proc.devRef .tc r) = W6 W (Proc.devRef .tc r) := StableHlo.after_of_writes_sub (r := r) hostOps1_6 _ hostOps1_6_writes h
theorem keep8 (r : Ref sig .tc) (h : r ∉ hostOps1_7_W) : W8 W (Proc.devRef .tc r) = W7 W (Proc.devRef .tc r) := StableHlo.after_of_writes_sub (r := r) hostOps1_7 _ hostOps1_7_writes h
theorem keep9 (r : Ref sig .tc) (h : r ∉ hostOps1_8_W) : W9 W (Proc.devRef .tc r) = W8 W (Proc.devRef .tc r) := StableHlo.after_of_writes_sub (r := r) hostOps1_8 _ hostOps1_8_writes h
theorem keep10 (r : Ref sig .tc) (h : r ∉ hostOps1_9_W) : W10 W (Proc.devRef .tc r) = W9 W (Proc.devRef .tc r) := StableHlo.after_of_writes_sub (r := r) hostOps1_9 _ hostOps1_9_writes h

/-- The head numbers the reference gathers by. -/
def headList : IVec S27 32 := extractStridedSlice S27 ![0] (W (Proc.devRef .tc main_arg6)) slices_S40_S27_0
theorem v1_at1 : W1 W (Proc.devRef .tc main_v1) = headList W := op0 W
theorem v2_at8 : W8 W (Proc.devRef .tc main_v2) = take4 (φ := .f32) (W (Proc.devRef .tc main_v0_0)) (headList W) (constant (F := Ideal) S_ .f32 0x7FC00000#32) := by
  rw [keep8 W _ (by decide +kernel), keep7 W _ (by decide +kernel), keep6 W _ (by decide +kernel), keep5 W _ (by decide +kernel), keep4 W _ (by decide +kernel), keep3 W _ (by decide +kernel)]
  refine (op1 (W1 W)).trans ?_
  rw [v1_at1, keep1 W main_v0_0 (by decide +kernel)]
theorem v3_at8 : W8 W (Proc.devRef .tc main_v3) = take4 (φ := .f32) (W (Proc.devRef .tc main_v0_1)) (headList W) (constant (F := Ideal) S_ .f32 0x7FC00000#32) := by
  rw [keep8 W _ (by decide +kernel), keep7 W _ (by decide +kernel), keep6 W _ (by decide +kernel), keep5 W _ (by decide +kernel), keep4 W _ (by decide +kernel)]
  refine (op2 (W2 W)).trans ?_
  rw [keep2 W main_v1 (by decide +kernel), v1_at1, keep2 W main_v0_1 (by decide +kernel), keep1 W main_v0_1 (by decide +kernel)]
theorem v4_at8 : W8 W (Proc.devRef .tc main_v4) = take4 (φ := .bf16) (W (Proc.devRef .tc main_v0_2)) (headList W) (constant (F := Ideal) S_ .bf16 0x7FC0#16) := by
  rw [keep8 W _ (by decide +kernel), keep7 W _ (by decide +kernel), keep6 W _ (by decide +kernel), keep5 W _ (by decide +kernel)]
  refine (op3 (W3 W)).trans ?_
  rw [keep3 W main_v1 (by decide +kernel), keep2 W main_v1 (by decide +kernel), v1_at1, keep3 W main_v0_2 (by decide +kernel), keep2 W main_v0_2 (by decide +kernel), keep1 W main_v0_2 (by decide +kernel)]
theorem v5_at6 : W6 W (Proc.devRef .tc main_v5) = take2 (W (Proc.devRef .tc main_arg3)) (headList W) (constant (F := Ideal) S_ .f32 0x7FC00000#32) := by
  rw [keep6 W _ (by decide +kernel)]
  refine (op4 (W4 W)).trans ?_
  rw [keep4 W main_v1 (by decide +kernel), keep3 W main_v1 (by decide +kernel), keep2 W main_v1 (by decide +kernel), v1_at1, keep4 W main_arg3 (by decide +kernel), keep3 W main_arg3 (by decide +kernel), keep2 W main_arg3 (by decide +kernel), keep1 W main_arg3 (by decide +kernel)]
theorem v6_at6 : W6 W (Proc.devRef .tc main_v6) = take2 (W (Proc.devRef .tc main_arg4)) (headList W) (constant (F := Ideal) S_ .f32 0x7FC00000#32) := by
  refine (op5 (W5 W)).trans ?_
  rw [keep5 W main_v1 (by decide +kernel), keep4 W main_v1 (by decide +kernel), keep3 W main_v1 (by decide +kernel), keep2 W main_v1 (by decide +kernel), v1_at1,
    keep5 W main_arg4 (by decide +kernel), keep4 W main_arg4 (by decide +kernel), keep3 W main_arg4 (by decide +kernel), keep2 W main_arg4 (by decide +kernel), keep1 W main_arg4 (by decide +kernel)]
theorem v10_at8 : W8 W (Proc.devRef .tc main_v10) = scaleV (take2 (W (Proc.devRef .tc main_arg3)) (headList W) (constant (F := Ideal) S_ .f32 0x7FC00000#32))
    (take2 (W (Proc.devRef .tc main_arg4)) (headList W) (constant (F := Ideal) S_ .f32 0x7FC00000#32)) := by
  rw [keep8 W _ (by decide +kernel)]
  refine (op6 (W6 W)).trans ?_
  rw [v5_at6, v6_at6]
theorem v11_at8 : W8 W (Proc.devRef .tc main_v11) = take2 (W (Proc.devRef .tc main_arg5)) (headList W) (constant (F := Ideal) S_ .f32 0x7FC00000#32) := by
  refine (op7 (W7 W)).trans ?_
  rw [keep7 W main_v1 (by decide +kernel), keep6 W main_v1 (by decide +kernel), keep5 W main_v1 (by decide +kernel), keep4 W main_v1 (by decide +kernel), keep3 W main_v1 (by decide +kernel), keep2 W main_v1 (by decide +kernel), v1_at1,
    keep7 W main_arg5 (by decide +kernel), keep6 W main_arg5 (by decide +kernel), keep5 W main_arg5 (by decide +kernel), keep4 W main_arg5 (by decide +kernel), keep3 W main_arg5 (by decide +kernel), keep2 W main_arg5 (by decide +kernel), keep1 W main_arg5 (by decide +kernel)]

/-- The result as a function of the gathered arrays. -/
theorem v88_eq : StableHlo.after hostOps1_10 (W10 W) (Proc.devRef .tc main_v88)
    = final (sOwn (frames (W8 W (Proc.devRef .tc main_v2))) (frames (W8 W (Proc.devRef .tc main_v3))) (W8 W (Proc.devRef .tc main_v10)))
        (sMask isFirst (constant (F := Ideal) S_ .f32 4286578688#32) (sZero (frames (W8 W (Proc.devRef .tc main_v2))) (frame0 (frames (W8 W (Proc.devRef .tc main_v3)))) (W8 W (Proc.devRef .tc main_v10))))
        (sText (frames (W8 W (Proc.devRef .tc main_v2))) (text (W8 W (Proc.devRef .tc main_v3))) (W8 W (Proc.devRef .tc main_v10)))
        (frames (φ := .bf16) (W8 W (Proc.devRef .tc main_v4))) (frame0 (φ := .bf16) (frames (φ := .bf16) (W8 W (Proc.devRef .tc main_v4)))) (text (φ := .bf16) (W8 W (Proc.devRef .tc main_v4)))
        (scaleO (W8 W (Proc.devRef .tc main_v11))) := by
  have h31 : W10 W (Proc.devRef .tc main_v31) = _ := (keep10 W main_v31 (by decide +kernel)).trans (op8_own (W8 W))
  have h36 : W10 W (Proc.devRef .tc main_v36) = sMask isFirst (constant (F := Ideal) S_ .f32 4286578688#32) (sZero (frames (W8 W (Proc.devRef .tc main_v2))) (frame0 (frames (W8 W (Proc.devRef .tc main_v3)))) (W8 W (Proc.devRef .tc main_v10))) := by
    refine (op9 (W9 W)).trans ?_
    rw [show W9 W (Proc.devRef .tc main_v28) = isFirst from op8_first (W8 W), show W9 W (Proc.devRef .tc main_cst_0) = _ from op8_bot (W8 W), show W9 W (Proc.devRef .tc main_v35) = _ from op8_zero (W8 W)]
  have h14 : W10 W (Proc.devRef .tc main_v14) = _ := (keep10 W main_v14 (by decide +kernel)).trans (op8_q (W8 W))
  have h23 : W10 W (Proc.devRef .tc main_v23) = _ := (keep10 W main_v23 (by decide +kernel)).trans (op8_kt (W8 W))
  have h10 : W10 W (Proc.devRef .tc main_v10) = W8 W (Proc.devRef .tc main_v10) := (keep10 W main_v10 (by decide +kernel)).trans (keep9 W main_v10 (by decide +kernel))
  have h18 : W10 W (Proc.devRef .tc main_v18) = _ := (keep10 W main_v18 (by decide +kernel)).trans (op8_v (W8 W))
  have h22 : W10 W (Proc.devRef .tc main_v22) = _ := (keep10 W main_v22 (by decide +kernel)).trans (op8_v0 (W8 W))
  have h24 : W10 W (Proc.devRef .tc main_v24) = _ := (keep10 W main_v24 (by decide +kernel)).trans (op8_vt (W8 W))
  have h12 : W10 W (Proc.devRef .tc main_v12) = _ := (keep10 W main_v12 (by decide +kernel)).trans (op8_v12 (W8 W))
  rw [op10, h31, h36, h14, h23, h10, h18, h22, h24, h12]

/-- The reference's result at an index. -/
theorem v88_at (b : Fin 2) (f : Fin 21) (x : Fin 1536) (i : Fin 27) (d : Fin 128) (hi : (headList W (ix1 i)).toNat < 40) :
    StableHlo.after hostOps1_10 (W10 W) (Proc.devRef .tc main_v88) (ix3 b ⟨f.val * 1536 + x.val, by omega⟩ ⟨i.val * 128 + d.val, by omega⟩)
      = spec (fun b t h d => W (Proc.devRef .tc main_v0_0) (ix4 b t h d)) (fun b t h d => W (Proc.devRef .tc main_v0_1) (ix4 b t h d)) (fun b t h d => W (Proc.devRef .tc main_v0_2) (ix4 b t h d))
          (fun b h => W (Proc.devRef .tc main_arg3) (ix2 b h)) (fun b h => W (Proc.devRef .tc main_arg4) (ix2 b h)) (fun b h => W (Proc.devRef .tc main_arg5) (ix2 b h))
          b f x (headOf (headList W) i) d := by
  rw [v88_eq]
  refine (final_at _ _ _ _ _ _ _ b f x i d).trans ?_
  have hq : ∀ (t : Fin 32768) (e : Fin 128), W8 W (Proc.devRef .tc main_v2) (ix4 b t i e) = W (Proc.devRef .tc main_v0_0) (ix4 b t (headOf (headList W) i) e) :=
    fun t e => (congrFun (v2_at8 W) _).trans (take4_at _ _ _ b t i e hi)
  have hk : ∀ (t : Fin 32768) (e : Fin 128), W8 W (Proc.devRef .tc main_v3) (ix4 b t i e) = W (Proc.devRef .tc main_v0_1) (ix4 b t (headOf (headList W) i) e) :=
    fun t e => (congrFun (v3_at8 W) _).trans (take4_at _ _ _ b t i e hi)
  have hv : ∀ (t : Fin 32768) (e : Fin 128), W8 W (Proc.devRef .tc main_v4) (ix4 b t i e) = W (Proc.devRef .tc main_v0_2) (ix4 b t (headOf (headList W) i) e) :=
    fun t e => (congrFun (v4_at8 W) _).trans (take4_at _ _ _ b t i e hi)
  have hs : W8 W (Proc.devRef .tc main_v10) (ix5 b 0 i 0 0) = scoreScale (W (Proc.devRef .tc main_arg3) (ix2 b (headOf (headList W) i))) (W (Proc.devRef .tc main_arg4) (ix2 b (headOf (headList W) i))) := by
    refine (congrFun (v10_at8 W) _).trans ((scaleV_at _ _ b i).trans ?_)
    rw [take2_at _ _ _ _ _ hi, take2_at _ _ _ _ _ hi]
    rfl
  unfold spec
  refine Cert.KernelIdeal.Value.refRow_congr (fun y => ?_) (fun y => ?_) (fun y => ?_) (fun y => ?_) (fun y => ?_) (fun y => ?_) ?_
  · refine (sOwn_at _ _ _ b f i x y).trans ?_
    rw [hs]
    refine congrArg (· * _) (Finset.sum_congr rfl fun e _ => ?_)
    rw [frames_at, frames_at, hq, hk]
    rfl
  · refine (sMask_at _ _ b f i x y).trans ?_
    by_cases hf : f = 0
    · rw [if_pos hf, if_pos hf, const_bot]
    · rw [if_neg hf, if_neg hf]
      refine (sZero_at _ _ _ b f i x y).trans ?_
      rw [hs]
      refine congrArg (· * _) (Finset.sum_congr rfl fun e _ => ?_)
      rw [frame0_at, frames_at, frames_at, hq, hk]
      rfl
  · refine (sText_at _ _ _ b f i x y).trans ?_
    rw [hs]
    refine congrArg (· * _) (Finset.sum_congr rfl fun e _ => ?_)
    rw [text_at, frames_at, hq, hk]
    rfl
  · rw [frames_at, hv]; rfl
  · rw [frame0_at, frames_at, hv]; rfl
  · rw [text_at, hv]; rfl
  · refine (scaleO_at _ b i).trans ?_
    exact (congrFun (v11_at8 W) _).trans (take2_at _ _ _ b i hi)
end Cert.RefIdeal.Value
-- ==== Proof.RefRun.lean ====
/- The reference's run: the decoding kernel's arrays are its inputs, and the result is the specified one. -/
module

public import proofs.«01_k».proof.Proof.RefResult
public import proofs.«01_k».proof.Proof.Result

@[expose] public section

set_option maxRecDepth 16384

noncomputable section

namespace Cert.RefIdeal.Value
open Cert.RefIdeal Cert.RefIdeal.Gen
open Cert.KernelIdeal.Value (resultAt resultAt_eq split_row split_channel headNo spec)
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- Every window's block index at the one point. -/
theorem idx : ∀ t : Fin cfg0.N, win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0, 0] :=
  (by decide +kernel : ∀ t : Fin grid0.N, _)

theorem iblk0 (c : Dev nD) : iblk m c 0 t0_0 = m ((c : Thread nD τ).loc main_arg0) := by
  blk_ext! [iblk, V, idx t0_0]
theorem iblk1 (c : Dev nD) : iblk m c 1 t0_0 = m ((c : Thread nD τ).loc main_arg1) := by
  blk_ext! [iblk, V, idx t0_0]
theorem iblk2 (c : Dev nD) : iblk m c 2 t0_0 = m ((c : Thread nD τ).loc main_arg2) := by
  blk_ext! [iblk, V, idx t0_0]

/-- An array of codes at its decoded type: the same numbers. -/
def decoded {φ : FTy} (x : Vec Ideal S2x32768x40x128 .fp8e4m3) : FVec Ideal S2x32768x40x128 φ := fun j => x j

theorem arr3 (c : Dev nD) : (dats m 0 c).arrAt 3 cfg0.N = decoded (φ := .f32) (m ((c : Thread nD τ).loc main_arg0)) := by
  refine (dats m 0 c).arrAt_eq_of_after_last 3 t0_0 (by decide +kernel) _ fun j => ?_
  blk_simp
  rw [after0_3]
  unfold out0_3
  frame_out
  rw [iblk0]
  rfl
theorem arr4 (c : Dev nD) : (dats m 0 c).arrAt 4 cfg0.N = decoded (φ := .f32) (m ((c : Thread nD τ).loc main_arg1)) := by
  refine (dats m 0 c).arrAt_eq_of_after_last 4 t0_0 (by decide +kernel) _ fun j => ?_
  blk_simp
  rw [after0_4]
  unfold out0_4
  frame_out
  rw [iblk1]
  rfl
theorem arr5 (c : Dev nD) : (dats m 0 c).arrAt 5 cfg0.N = decoded (φ := .bf16) (m ((c : Thread nD τ).loc main_arg2)) := by
  refine (dats m 0 c).arrAt_eq_of_after_last 5 t0_0 (by decide +kernel) _ fun j => ?_
  blk_simp
  rw [after0_5]
  unfold out0_5
  frame_out
  rw [iblk2]
  rfl

/-- The contents the lines after the decoding kernel start from. -/
def start (c : Dev nD) : Valuation τ sig (Elt Ideal) := Pipeline.withArrays spec0 c (V0 m c) (fun w => (dats m 0 c).arrAt w cfg0.N)

theorem start_q (c : Dev nD) : start m c (Proc.devRef .tc main_v0_0) = decoded (φ := .f32) (m ((c : Thread nD τ).loc main_arg0)) :=
  (Pipeline.withArrays_arr spec0 (by decide +kernel) c (V0 m c) (fun w => (dats m 0 c).arrAt w cfg0.N) 3).trans (arr3 m c)
theorem start_k (c : Dev nD) : start m c (Proc.devRef .tc main_v0_1) = decoded (φ := .f32) (m ((c : Thread nD τ).loc main_arg1)) :=
  (Pipeline.withArrays_arr spec0 (by decide +kernel) c (V0 m c) (fun w => (dats m 0 c).arrAt w cfg0.N) 4).trans (arr4 m c)
theorem start_v (c : Dev nD) : start m c (Proc.devRef .tc main_v0_2) = decoded (φ := .bf16) (m ((c : Thread nD τ).loc main_arg2)) :=
  (Pipeline.withArrays_arr spec0 (by decide +kernel) c (V0 m c) (fun w => (dats m 0 c).arrAt w cfg0.N) 5).trans (arr5 m c)
theorem start_arg3 (c : Dev nD) : start m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem start_arg4 (c : Dev nD) : start m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem start_arg5 (c : Dev nD) : start m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
theorem start_arg6 (c : Dev nD) : start m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem tail_eq (c : Dev nD) : Pipeline.afterTail₀ cfgs (dats m) 0 (V0 m) [hostOps1, hostOps1_1, hostOps1_2, hostOps1_3, hostOps1_4, hostOps1_5, hostOps1_6, hostOps1_7, hostOps1_8, hostOps1_9, hostOps1_10] c main_v88
    = StableHlo.after hostOps1_10 (W10 (start m c)) (Proc.devRef .tc main_v88) := by
  unfold Pipeline.afterTail₀
  rw [List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append]
  rfl

/-- The result array, as a function of the inputs. -/
def specified (c : Dev nD) : Vec Ideal S2x32256x3456 .bf16 := fun j =>
  resultAt (fun b t h d => m ((c : Thread nD τ).loc main_arg0) (ix4 b t h d)) (fun b t h d => m ((c : Thread nD τ).loc main_arg1) (ix4 b t h d)) (fun b t h d => m ((c : Thread nD τ).loc main_arg2) (ix4 b t h d))
    (fun b h => m ((c : Thread nD τ).loc main_arg3) (ix2 b h)) (fun b h => m ((c : Thread nD τ).loc main_arg4) (ix2 b h)) (fun b h => m ((c : Thread nD τ).loc main_arg5) (ix2 b h))
    (fun j => m ((c : Thread nD τ).loc main_arg6) (ix1 j)) (j 0) (j 1) (j 2)

theorem head_at (W : Valuation τ sig (Elt Ideal)) (i : Fin 27) : headList W (ix1 i) = W (Proc.devRef .tc main_arg6) (ix1 ⟨i.val, by omega⟩) := by
  unfold headList
  pointwise

theorem tail_result (c : Dev nD) (hT : ∀ i : Fin 27, (m ((c : Thread nD τ).loc main_arg6) (ix1 ⟨i.val, by omega⟩)).toNat < 40) :
    StableHlo.after hostOps1_10 (W10 (start m c)) (Proc.devRef .tc main_v88) = specified m c := by
  funext j
  obtain ⟨b, r, ch, rfl⟩ : ∃ (b : Fin 2) (r : Fin 32256) (ch : Fin 3456), j = ix3 b r ch := ⟨j (0 : Fin 3), j (1 : Fin 3), j (2 : Fin 3), eq_ix3 (n0 := 2) (n1 := 32256) (n2 := 3456) j⟩
  obtain ⟨f, x, rfl⟩ := split_row r
  obtain ⟨i, d, rfl⟩ := split_channel ch
  have hw : headList (start m c) (ix1 i) = m ((c : Thread nD τ).loc main_arg6) (ix1 ⟨i.val, by omega⟩) := (head_at _ i).trans (congrFun (start_arg6 m c) _)
  have hi : (headList (start m c) (ix1 i)).toNat < 40 := by rw [hw]; exact hT i
  have hh : headOf (headList (start m c)) i = headNo (fun j => m ((c : Thread nD τ).loc main_arg6) (ix1 j)) i :=
    Fin.ext (congrArg (fun w : BitVec 32 => min w.toNat 39) hw)
  refine (v88_at (start m c) b f x i d hi).trans ?_
  rw [start_q, start_k, start_v, start_arg3, start_arg4, start_arg5, hh]
  exact (resultAt_eq _ _ _ _ _ _ _ b f x i d).symm

/-- The reference's result and its arguments unchanged. -/
theorem run (hT : ∀ (c : Dev nD) (i : Fin 27), (m ((c : Thread nD τ).loc main_arg6) (ix1 ⟨i.val, by omega⟩)).toNat < 40) :
    θ_run defs (onTc (τ := τ) (main (F := Ideal))) ⟨m, fun _ => 0, ρ⟩ (fun r => ∀ c : Dev nD,
      r.2.mem ((c.tc : Thread nD τ).loc main_v88) = specified m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h : θ_run defs (onTc (τ := τ) (main (F := Ideal))) ⟨m, fun _ => 0, ρ⟩ (fun r => ∀ c : Dev nD, r.2.mem ((c.tc : Thread nD τ).loc main_v88) = specified m c) :=
    (θ_run defs _ _).mono (fun r h c => ((h c).2 main_v88 (Pipeline.mem_restRefs_of main_v88 (by decide) (by decide))).trans ((tail_eq m c).trans (tail_result m c (hT c)))) (run_main m ρ)
  exact (θ_run defs _ _).mono (fun r h c => ⟨h.1 c, h.2 c⟩) (Idealize.ShloMosaic.θ_run_and h (unchanged m ρ))

end Cert.RefIdeal.Value
end
-- ==== Proof.lean ====
/- The proof of the claim: the three frames, the two named constants, and the equality of the idealized kernel's
   result with the idealized reference's. -/
module

public import proofs.«01_k».proof.Defs
public import proofs.«01_k».proof.Proof.Gen.Kernel
public import proofs.«01_k».proof.Proof.Gen.KernelIdeal
public import proofs.«01_k».proof.Proof.Gen.RefIdeal
public import proofs.«01_k».proof.Proof.Gen.Pre_heads_in_range
public import proofs.«01_k».proof.Proof.Gen.RefIdeal.Frame
public import proofs.«01_k».proof.Proof.HeadsBits
public import proofs.«01_k».proof.Proof.HeadsIdeal
public import proofs.«01_k».proof.Proof.FrameBits
public import proofs.«01_k».proof.Proof.ValueIdeal
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The head list's first 27 words are head numbers, wherever the list is the kernel's. -/
theorem head_lt (m : (ℓ : Loc Cert.KernelIdeal.nD Cert.KernelIdeal.τ Cert.KernelIdeal.sig) → Buf (Elt Ideal) ℓ) (hp : Cert.Pre_KernelIdeal m) (i : Fin 27) :
    (m (((0 : Dev Cert.KernelIdeal.nD).tc : Thread Cert.KernelIdeal.nD Cert.KernelIdeal.τ).loc Cert.KernelIdeal.main_arg6) (ix1 ⟨i.val, by omega⟩)).toNat < 40 :=
  Cert.KernelIdeal.Gen.pre_word _ _ _ _ _ _ _ (hp 0) (ix1 ⟨i.val, by omega⟩) i.isLt

theorem heads_lt (m : (ℓ : Loc Cert.KernelIdeal.nD Cert.KernelIdeal.τ Cert.KernelIdeal.sig) → Buf (Elt Ideal) ℓ) (hp : Cert.Pre_KernelIdeal m) (i : Cert.KernelIdeal.grid0.Coords) :
    (Cert.KernelIdeal.Gen.headAt (F := Ideal) (Cert.KernelIdeal.Gen.tbl m 0) i).toNat < 40 := by
  rw [show (Cert.KernelIdeal.Gen.tbl m 0 : (⟨Cert.KernelIdeal.S40, .i32⟩ : BufTy).Contents (Elt Ideal)) = _ from Cert.KernelIdeal.Gen.tbl_eq m]
  exact Cert.KernelIdeal.heads_of_pre m hp i

/-- Both idealized programs leave the specified result. -/
theorem algebraic : Cert.algebraic_KernelIdeal_RefIdeal (hKernelIdeal := Cert.KernelIdeal.Gen.facts) (hRefIdeal := Cert.RefIdeal.Gen.facts) (hPre_heads_in_range := Cert.Pre_heads_in_range.Gen.facts) := by
  intro m g m' g' hp hin
  refine ⟨Cert.KernelIdeal.Value.result m, Cert.KernelIdeal.Value.run m g (Cert.KernelIdeal.ok_of_pre m hp) (Cert.KernelIdeal.hyps_of_pre m hp) (heads_lt m hp), ?_⟩
  have hT : ∀ (c : Dev Cert.RefIdeal.nD) (i : Fin 27), (m' ((c.tc : Thread Cert.RefIdeal.nD Cert.RefIdeal.τ).loc Cert.RefIdeal.main_arg6) (ix1 ⟨i.val, by omega⟩)).toNat < 40 := by
    intro c i
    obtain rfl : c = 0 := Subsingleton.elim _ _
    exact (congrArg BitVec.toNat (congrFun (hin 0).2.2.2.2.2.2 (ix1 ⟨i.val, by omega⟩))).trans_lt (head_lt m hp i)
  refine (θ_run Cert.RefIdeal.defs _ _).mono (fun r h c => ⟨(h c).1.trans ?_, (h c).2⟩) (Cert.RefIdeal.Value.run m' g' hT)
  obtain ⟨h0, h1, h2, h3, h4, h5, h6⟩ := hin c
  unfold Cert.RefIdeal.Value.specified
  rw [h0, h1, h2, h3, h4, h5, h6]
  rfl

theorem claim : Cert.Claim := ⟨Cert.Kernel.Gen.facts, Cert.KernelIdeal.Gen.facts, Cert.RefIdeal.Gen.facts, Cert.Pre_heads_in_range.Gen.facts,
  fun m g hp => Cert.Kernel.Gen.frame m g (Cert.Kernel.ok_of_pre m hp) (Cert.Kernel.hyps_of_pre m hp),
  fun m g hp => Cert.KernelIdeal.Value.frame m g (Cert.KernelIdeal.ok_of_pre m hp) (Cert.KernelIdeal.hyps_of_pre m hp) (heads_lt m hp),
  fun m g _ => Cert.RefIdeal.Gen.frame m g,
  fun m g _ => Cert.RefIdeal.Gen.frame m g,
  ⟨IdealRules.named_const.statement _ _ _ _ _ rfl, IdealRules.named_const.statement _ _ _ _ _ rfl⟩,
  algebraic⟩

end Cert.Proof

end
